-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x1000000 : Shape := ⟨2, ![64, 1000000]⟩
abbrev S_ : Shape := ⟨0, ![]⟩

class Facts : Prop where
  bcast_S_S64x1000000 : S_.BroadcastsInDim S64x1000000 (![] : Fin 0 → Fin S64x1000000.rank)
  reducesTo_S64x1000000_S_d0_1 : S64x1000000.ReducesTo [0, 1] S_
  h_S_ : 0 < S_.numel

variable [Facts]

def fn {F : FTy → Type} [FloatOps F] (main_arg0 : FVec F S64x1000000 .f32) : IVec S_ 1 :=
  let main_v0 : FVec F S64x1000000 .f32 := Host.absf main_arg0
  let main_cst : FVec F S_ .f32 := constant S_ .f32 0x7F800000#32
  let main_v1 : FVec F S64x1000000 .f32 := broadcastInDim S64x1000000 ![] bcast_S_S64x1000000 main_cst
  let main_v2 : IVec S64x1000000 1 := cmpf .olt main_v0 main_v1
  let main_c : IVec S_ 1 := constantI S_ 1 1#1
  let main_v3 : IVec S_ 1 := (fun x v => Host.reduce IntOp.andi x v reducesTo_S64x1000000_S_d0_1 h_S_) main_v2 main_c
  main_v3
-- ==== Kernel.lean ====
abbrev S64x1000000 : Shape := ⟨2, ![64, 1000000]⟩
abbrev S35x64x8192 : Shape := ⟨3, ![35, 64, 8192]⟩
abbrev S8192 : Shape := ⟨1, ![8192]⟩
abbrev S16 : Shape := ⟨1, ![16]⟩
abbrev S_ : Shape := ⟨0, ![]⟩
abbrev S1x1x8192 : Shape := ⟨3, ![1, 1, 8192]⟩
abbrev S64x1 : Shape := ⟨2, ![64, 1]⟩
abbrev S64x16384 : Shape := ⟨2, ![64, 16384]⟩
abbrev S64x256 : Shape := ⟨2, ![64, 256]⟩
abbrev S64 : Shape := ⟨1, ![64]⟩
abbrev S1x64x8192 : Shape := ⟨3, ![1, 64, 8192]⟩
abbrev S64x8192 : Shape := ⟨2, ![64, 8192]⟩
abbrev S1x64x256 : Shape := ⟨3, ![1, 64, 256]⟩

abbrev nBuf : Table → Nat
  | .hbm => 9
  | .local .tc .vmem => 14
  | .local .scVector .vmem => 1
  | _ => 0

abbrev bufTy : (tb : Table) → Fin (nBuf tb) → BufTy
  | .hbm, ⟨0, _⟩ => ⟨S64x1000000, .f32⟩
  | .hbm, ⟨1, _⟩ => ⟨S35x64x8192, .i32⟩
  | .hbm, ⟨2, _⟩ => ⟨S64x1, .f32⟩
  | .hbm, ⟨3, _⟩ => ⟨S64x1, .i32⟩
  | .hbm, ⟨4, _⟩ => ⟨S64x1, .f32⟩
  | .hbm, ⟨5, _⟩ => ⟨S64x1, .i32⟩
  | .hbm, ⟨6, _⟩ => ⟨S64x1, .i1⟩
  | .hbm, ⟨7, _⟩ => ⟨S64x1, .i32⟩
  | .hbm, ⟨8, _⟩ => ⟨S64, .i32⟩
  | .local .tc .vmem, ⟨0, _⟩ => ⟨S64x16384, .f32⟩
  | .local .tc .vmem, ⟨1, _⟩ => ⟨S64x16384, .f32⟩
  | .local .tc .vmem, ⟨2, _⟩ => ⟨S64x1, .f32⟩
  | .local .tc .vmem, ⟨3, _⟩ => ⟨S64x1, .i32⟩
  | .local .tc .vmem, ⟨4, _⟩ => ⟨S64x1, .f32⟩
  | .local .tc .vmem, ⟨5, _⟩ => ⟨S64x1, .i32⟩
  | .local .tc .vmem, ⟨6, _⟩ => ⟨S1x64x8192, .i32⟩
  | .local .tc .vmem, ⟨7, _⟩ => ⟨S1x64x8192, .i32⟩
  | .local .tc .vmem, ⟨8, _⟩ => ⟨S64x8192, .f32⟩
  | .local .tc .vmem, ⟨9, _⟩ => ⟨S64x8192, .f32⟩
  | .local .tc .vmem, ⟨10, _⟩ => ⟨S64x1, .f32⟩
  | .local .tc .vmem, ⟨11, _⟩ => ⟨S64x1, .i32⟩
  | .local .tc .vmem, ⟨12, _⟩ => ⟨S64x1, .f32⟩
  | .local .tc .vmem, ⟨13, _⟩ => ⟨S64x1, .i32⟩
  | .local .scVector .vmem, ⟨0, _⟩ => ⟨S8192, .i32⟩
  | _, _ => ⟨S64x1000000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_scratch0 : Ref sig .tc := ⟨.vmem, 4, rfl⟩
abbrev cc1_scratch1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_scratch0 : Ref sig .tc := ⟨.vmem, 12, rfl⟩
abbrev cc2_scratch1 : Ref sig .tc := ⟨.vmem, 13, rfl⟩
abbrev cc0_scratch0 : Ref sig .scVector := ⟨.vmem, 0, rfl⟩
abbrev cc1_sem0_0 : DmaSem sig := 2
abbrev cc1_sem0_1 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c35_i32 : BitVec 32 := 35#32
  let v7 : BitVec 32 := Scalar.addi c0_i32_1 c35_i32
  let c1_i32 : BitVec 32 := 1#32
  ⟨c0_i32_1, v7, c1_i32⟩
@[reducible] def k0_t2_loop : Scf.Loop 32 :=
  let c0_i32_11 : BitVec 32 := 0#32
  let c512_i32 : BitVec 32 := 512#32
  let v15 : BitVec 32 := Scalar.addi c0_i32_11 c512_i32
  let c1_i32_12 : BitVec 32 := 1#32
  ⟨c0_i32_11, v15, c1_i32_12⟩
def k0_off1 (k0_t2 : Fin k0_t2_loop.trips) : Fin 1 → Nat :=
  let c0_i32_11 : BitVec 32 := 0#32
  let c1_i32_12 : BitVec 32 := 1#32
  let arg5 : BitVec 32 := Scf.iv c0_i32_11 c1_i32_12 k0_t2
  let c16_i32_49 : BitVec 32 := 16#32
  let v182 : BitVec 32 := Scalar.muli arg5 c16_i32_49
  let v183 : Index := Scalar.indexCast v182
  ![v183.toNat]
def k0_off2 (i : grid0.Coords) (k0_t1 : Fin k0_t1_loop.trips) : Fin 3 → Nat :=
  let c0_i32_1 : BitVec 32 := 0#32
  let c1_i32 : BitVec 32 := 1#32
  let arg4 : BitVec 32 := Scf.iv c0_i32_1 c1_i32 k0_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c0_i32_14_r0 : BitVec 32 := 0#32
  ![arg4.toNat, v4.toNat, 0]
@[reducible] def k0_t3_loop : Scf.Loop 32 :=
  let c0_i32_7 : BitVec 32 := 0#32
  let c35_i32_8 : BitVec 32 := 35#32
  let v12 : BitVec 32 := Scalar.addi c0_i32_7 c35_i32_8
  let c1_i32_9 : BitVec 32 := 1#32
  ⟨c0_i32_7, v12, c1_i32_9⟩
@[reducible] def k0_t4_loop : Scf.Loop 32 :=
  let c0_i32_11 : BitVec 32 := 0#32
  let c512_i32 : BitVec 32 := 512#32
  let v15 : BitVec 32 := Scalar.addi c0_i32_11 c512_i32
  let c1_i32_12 : BitVec 32 := 1#32
  ⟨c0_i32_11, v15, c1_i32_12⟩
def k0_off3 (k0_t4 : Fin k0_t4_loop.trips) : Fin 1 → Nat :=
  let c0_i32_11 : BitVec 32 := 0#32
  let c1_i32_12 : BitVec 32 := 1#32
  let arg5 : BitVec 32 := Scf.iv c0_i32_11 c1_i32_12 k0_t4
  let c16_i32_49 : BitVec 32 := 16#32
  let v182 : BitVec 32 := Scalar.muli arg5 c16_i32_49
  let v183 : Index := Scalar.indexCast v182
  ![v183.toNat]
def k0_off4 (i : grid0.Coords) (k0_t3 : Fin k0_t3_loop.trips) : Fin 3 → Nat :=
  let c0_i32_7 : BitVec 32 := 0#32
  let c1_i32_9 : BitVec 32 := 1#32
  let arg4 : BitVec 32 := Scf.iv c0_i32_7 c1_i32_9 k0_t3
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v8 : BitVec 32 := Scalar.muli v1 c2_i32_3
  let c1_i32_4 : BitVec 32 := 1#32
  let v9 : BitVec 32 := Scalar.addi v8 c1_i32_4
  let c0_i32_14_r1 : BitVec 32 := 0#32
  ![arg4.toNat, v9.toNat, 0]
abbrev grid1 : Pipeline.Grid := ⟨1, ![44], ![false]⟩

def k1_cond2 (i : grid1.Coords) : BitVec 1 :=
  let arg0 : BitVec 32 := BitVec.ofNat 32 (i 0).val
  let c43_i32 : BitVec 32 := 43#32
  let v11934 : BitVec 1 := Scalar.cmpi .eq arg0 c43_i32
  let v11935 : BitVec 32 := Scalar.extui v11934
  let c0_i32_3707 : BitVec 32 := 0#32
  let v11936 : BitVec 1 := Scalar.cmpi .ne v11935 c0_i32_3707
  v11936

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![35], ![false]⟩

def k2_cond2 (i : grid2.Coords) : BitVec 1 :=
  let arg0 : BitVec 32 := BitVec.ofNat 32 (i 0).val
  let c34_i32 : BitVec 32 := 34#32
  let v991 : BitVec 1 := Scalar.cmpi .eq arg0 c34_i32
  let v992 : BitVec 32 := Scalar.extui v991
  let c0_i32_397 : BitVec 32 := 0#32
  let v993 : BitVec 1 := Scalar.cmpi .ne v992 c0_i32_397
  v993

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c88_i32 : BitVec 32 := 88#32
  let v0 : BitVec 32 := Scalar.addi arg0 c88_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x64x8192 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x1000000 : Shape := ⟨2, ![64, 1000000]⟩
abbrev S_ : Shape := ⟨0, ![]⟩
abbrev S64 : Shape := ⟨1, ![64]⟩

abbrev nBuf : Space → Nat
  | .hbm => 255
  | .vmem => 0
  | .smem => 0
  | _ => 0

abbrev hbmTy0_0 (i : Nat) : BufTy := match i % 128 with
  | 0 => ⟨S64x1000000, .f32⟩
  | 1 => ⟨S64x1000000, .i32⟩
  | 2 => ⟨S64x1000000, .i32⟩
  | 3 => ⟨S_, .i32⟩
  | 4 => ⟨S64x1000000, .i32⟩
  | 5 => ⟨S64x1000000, .i32⟩
  | 6 => ⟨S64x1000000, .i32⟩
  | 7 => ⟨S_, .i32⟩
  | 8 => ⟨S64x1000000, .i32⟩
  | 9 => ⟨S_, .i32⟩
  | 10 => ⟨S64x1000000, .i32⟩
  | 11 => ⟨S64x1000000, .i32⟩
  | 12 => ⟨S_, .i32⟩
  | 13 => ⟨S64x1000000, .i32⟩
  | 14 => ⟨S64x1000000, .i32⟩
  | 15 => ⟨S64x1000000, .i32⟩
  | 16 => ⟨S_, .i32⟩
  | 17 => ⟨S64x1000000, .i32⟩
  | 18 => ⟨S64x1000000, .i32⟩
  | 19 => ⟨S_, .i32⟩
  | 20 => ⟨S64x1000000, .i32⟩
  | 21 => ⟨S64x1000000, .i32⟩
  | 22 => ⟨S64x1000000, .i32⟩
  | 23 => ⟨S64x1000000, .i32⟩
  | 24 => ⟨S64x1000000, .i32⟩
  | 25 => ⟨S_, .i32⟩
  | 26 => ⟨S64x1000000, .i32⟩
  | 27 => ⟨S64x1000000, .i32⟩
  | 28 => ⟨S_, .i32⟩
  | 29 => ⟨S64x1000000, .i32⟩
  | 30 => ⟨S64x1000000, .i32⟩
  | 31 => ⟨S64x1000000, .i32⟩
  | 32 => ⟨S64x1000000, .i32⟩
  | 33 => ⟨S64x1000000, .i32⟩
  | 34 => ⟨S_, .i32⟩
  | 35 => ⟨S64x1000000, .i32⟩
  | 36 => ⟨S64x1000000, .i32⟩
  | 37 => ⟨S_, .i32⟩
  | 38 => ⟨S64x1000000, .i32⟩
  | 39 => ⟨S64x1000000, .i32⟩
  | 40 => ⟨S64x1000000, .i32⟩
  | 41 => ⟨S64x1000000, .i32⟩
  | 42 => ⟨S64x1000000, .i32⟩
  | 43 => ⟨S_, .i32⟩
  | 44 => ⟨S64x1000000, .i32⟩
  | 45 => ⟨S64x1000000, .i32⟩
  | 46 => ⟨S_, .i32⟩
  | 47 => ⟨S64x1000000, .i32⟩
  | 48 => ⟨S64x1000000, .i32⟩
  | 49 => ⟨S64x1000000, .i32⟩
  | 50 => ⟨S64x1000000, .i32⟩
  | 51 => ⟨S_, .i32⟩
  | 52 => ⟨S64x1000000, .i32⟩
  | 53 => ⟨S64x1000000, .i32⟩
  | 54 => ⟨S_, .i32⟩
  | 55 => ⟨S64x1000000, .i32⟩
  | 56 => ⟨S64x1000000, .i32⟩
  | 57 => ⟨S64x1000000, .i32⟩
  | 58 => ⟨S_, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S64x1000000, .i32⟩
  | 65 => ⟨S64x1000000, .i32⟩
  | 66 => ⟨S64x1000000, .i32⟩
  | 67 => ⟨S_, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S64x1000000, .i32⟩
  | 74 => ⟨S64x1000000, .i32⟩
  | 75 => ⟨S64x1000000, .i32⟩
  | 76 => ⟨S_, .i32⟩
  | 77 => ⟨S64x1000000, .i32⟩
  | 78 => ⟨S64x1000000, .i32⟩
  | 79 => ⟨S_, .i32⟩
  | 80 => ⟨S64x1000000, .i32⟩
  | 81 => ⟨S64x1000000, .i32⟩
  | 82 => ⟨S64x1000000, .i32⟩
  | 83 => ⟨S64x1000000, .i32⟩
  | 84 => ⟨S64x1000000, .i32⟩
  | 85 => ⟨S_, .i32⟩
  | 86 => ⟨S64x1000000, .i32⟩
  | 87 => ⟨S64x1000000, .i32⟩
  | 88 => ⟨S_, .i32⟩
  | 89 => ⟨S64x1000000, .i32⟩
  | 90 => ⟨S64x1000000, .i32⟩
  | 91 => ⟨S64x1000000, .i32⟩
  | 92 => ⟨S64x1000000, .i32⟩
  | 93 => ⟨S_, .i32⟩
  | 94 => ⟨S64x1000000, .i32⟩
  | 95 => ⟨S64x1000000, .i32⟩
  | 96 => ⟨S_, .i32⟩
  | 97 => ⟨S64x1000000, .i32⟩
  | 98 => ⟨S64x1000000, .i32⟩
  | 99 => ⟨S64x1000000, .i32⟩
  | 100 => ⟨S_, .i32⟩
  | 101 => ⟨S64x1000000, .i32⟩
  | 102 => ⟨S64x1000000, .i32⟩
  | 103 => ⟨S_, .i32⟩
  | 104 => ⟨S64x1000000, .i32⟩
  | 105 => ⟨S64x1000000, .i32⟩
  | 106 => ⟨S64x1000000, .i32⟩
  | 107 => ⟨S64x1000000, .i32⟩
  | 108 => ⟨S64x1000000, .i32⟩
  | 109 => ⟨S_, .i32⟩
  | 110 => ⟨S64x1000000, .i32⟩
  | 111 => ⟨S64x1000000, .i32⟩
  | 112 => ⟨S_, .i32⟩
  | 113 => ⟨S64x1000000, .i32⟩
  | 114 => ⟨S64x1000000, .i32⟩
  | 115 => ⟨S64x1000000, .i32⟩
  | 116 => ⟨S64x1000000, .i32⟩
  | 117 => ⟨S64x1000000, .i32⟩
  | 118 => ⟨S_, .i32⟩
  | 119 => ⟨S64x1000000, .i32⟩
  | 120 => ⟨S64x1000000, .i32⟩
  | 121 => ⟨S_, .i32⟩
  | 122 => ⟨S64x1000000, .i32⟩
  | 123 => ⟨S64x1000000, .i32⟩
  | 124 => ⟨S64x1000000, .i32⟩
  | 125 => ⟨S64x1000000, .i32⟩
  | 126 => ⟨S64x1000000, .i32⟩
  | 127 => ⟨S_, .i32⟩
  | _ => ⟨S64x1000000, .f32⟩

abbrev hbmTy0_1 (i : Nat) : BufTy := match i % 128 with
  | 0 => ⟨S64x1000000, .i32⟩
  | 1 => ⟨S64x1000000, .i32⟩
  | 2 => ⟨S_, .i32⟩
  | 3 => ⟨S64x1000000, .i32⟩
  | 4 => ⟨S64x1000000, .i32⟩
  | 5 => ⟨S64x1000000, .i32⟩
  | 6 => ⟨S64x1000000, .i32⟩
  | 7 => ⟨S_, .i32⟩
  | 8 => ⟨S64x1000000, .i32⟩
  | 9 => ⟨S64x1000000, .i32⟩
  | 10 => ⟨S_, .i32⟩
  | 11 => ⟨S64x1000000, .i32⟩
  | 12 => ⟨S64x1000000, .i32⟩
  | 13 => ⟨S64x1000000, .i32⟩
  | 14 => ⟨S_, .i32⟩
  | 15 => ⟨S64x1000000, .i32⟩
  | 16 => ⟨S64x1000000, .i32⟩
  | 17 => ⟨S_, .i32⟩
  | 18 => ⟨S64x1000000, .i32⟩
  | 19 => ⟨S64x1000000, .i32⟩
  | 20 => ⟨S64x1000000, .i32⟩
  | 21 => ⟨S64x1000000, .i32⟩
  | 22 => ⟨S64x1000000, .i32⟩
  | 23 => ⟨S_, .i32⟩
  | 24 => ⟨S64x1000000, .i32⟩
  | 25 => ⟨S64x1000000, .i32⟩
  | 26 => ⟨S_, .i32⟩
  | 27 => ⟨S64x1000000, .i32⟩
  | 28 => ⟨S64x1000000, .i32⟩
  | 29 => ⟨S64x1000000, .i32⟩
  | 30 => ⟨S64x1000000, .i32⟩
  | 31 => ⟨S64x1000000, .i32⟩
  | 32 => ⟨S_, .i32⟩
  | 33 => ⟨S64x1000000, .i32⟩
  | 34 => ⟨S64x1000000, .i32⟩
  | 35 => ⟨S_, .i32⟩
  | 36 => ⟨S64x1000000, .i32⟩
  | 37 => ⟨S64x1000000, .i32⟩
  | 38 => ⟨S64x1000000, .i32⟩
  | 39 => ⟨S64x1000000, .i32⟩
  | 40 => ⟨S64x1000000, .i32⟩
  | 41 => ⟨S_, .i32⟩
  | 42 => ⟨S64x1000000, .i32⟩
  | 43 => ⟨S64x1000000, .i32⟩
  | 44 => ⟨S_, .i32⟩
  | 45 => ⟨S64x1000000, .i32⟩
  | 46 => ⟨S64x1000000, .i32⟩
  | 47 => ⟨S64x1000000, .i32⟩
  | 48 => ⟨S64x1000000, .i32⟩
  | 49 => ⟨S_, .i32⟩
  | 50 => ⟨S64x1000000, .i32⟩
  | 51 => ⟨S64x1000000, .i32⟩
  | 52 => ⟨S_, .i32⟩
  | 53 => ⟨S64x1000000, .i32⟩
  | 54 => ⟨S64x1000000, .i32⟩
  | 55 => ⟨S64x1000000, .i32⟩
  | 56 => ⟨S_, .i32⟩
  | 57 => ⟨S64x1000000, .i32⟩
  | 58 => ⟨S64x1000000, .i32⟩
  | 59 => ⟨S_, .i32⟩
  | 60 => ⟨S64x1000000, .i32⟩
  | 61 => ⟨S64x1000000, .i32⟩
  | 62 => ⟨S64x1000000, .i32⟩
  | 63 => ⟨S64x1000000, .i32⟩
  | 64 => ⟨S64x1000000, .i32⟩
  | 65 => ⟨S_, .i32⟩
  | 66 => ⟨S64x1000000, .i32⟩
  | 67 => ⟨S64x1000000, .i32⟩
  | 68 => ⟨S_, .i32⟩
  | 69 => ⟨S64x1000000, .i32⟩
  | 70 => ⟨S64x1000000, .i32⟩
  | 71 => ⟨S64x1000000, .i32⟩
  | 72 => ⟨S64x1000000, .i32⟩
  | 73 => ⟨S64x1000000, .i32⟩
  | 74 => ⟨S_, .i32⟩
  | 75 => ⟨S64x1000000, .i32⟩
  | 76 => ⟨S64x1000000, .i32⟩
  | 77 => ⟨S_, .i32⟩
  | 78 => ⟨S64x1000000, .i32⟩
  | 79 => ⟨S64x1000000, .i32⟩
  | 80 => ⟨S64x1000000, .i32⟩
  | 81 => ⟨S64x1000000, .i32⟩
  | 82 => ⟨S64x1000000, .i32⟩
  | 83 => ⟨S_, .i32⟩
  | 84 => ⟨S64x1000000, .i32⟩
  | 85 => ⟨S64x1000000, .i32⟩
  | 86 => ⟨S_, .i32⟩
  | 87 => ⟨S64x1000000, .i32⟩
  | 88 => ⟨S64x1000000, .i32⟩
  | 89 => ⟨S64x1000000, .i32⟩
  | 90 => ⟨S64x1000000, .i32⟩
  | 91 => ⟨S_, .i32⟩
  | 92 => ⟨S64x1000000, .i32⟩
  | 93 => ⟨S64x1000000, .i32⟩
  | 94 => ⟨S_, .i32⟩
  | 95 => ⟨S64x1000000, .i32⟩
  | 96 => ⟨S64x1000000, .i32⟩
  | 97 => ⟨S64x1000000, .i32⟩
  | 98 => ⟨S_, .i32⟩
  | 99 => ⟨S64x1000000, .i32⟩
  | 100 => ⟨S64x1000000, .i32⟩
  | 101 => ⟨S_, .i32⟩
  | 102 => ⟨S64x1000000, .i32⟩
  | 103 => ⟨S64x1000000, .i32⟩
  | 104 => ⟨S64x1000000, .f32⟩
  | 105 => ⟨S_, .f32⟩
  | 106 => ⟨S64x1000000, .f32⟩
  | 107 => ⟨S64x1000000, .f32⟩
  | 108 => ⟨S_, .f32⟩
  | 109 => ⟨S64x1000000, .f32⟩
  | 110 => ⟨S64x1000000, .f32⟩
  | 111 => ⟨S_, .f32⟩
  | 112 => ⟨S64x1000000, .f32⟩
  | 113 => ⟨S64x1000000, .f32⟩
  | 114 => ⟨S_, .f32⟩
  | 115 => ⟨S64x1000000, .f32⟩
  | 116 => ⟨S64x1000000, .f32⟩
  | 117 => ⟨S64x1000000, .f32⟩
  | 118 => ⟨S64x1000000, .f32⟩
  | 119 => ⟨S64x1000000, .f32⟩
  | 120 => ⟨S64x1000000, .f32⟩
  | 121 => ⟨S64x1000000, .f32⟩
  | 122 => ⟨S64x1000000, .i32⟩
  | 123 => ⟨S_, .f32⟩
  | 124 => ⟨S_, .i32⟩
  | 125 => ⟨S64, .f32⟩
  | 126 => ⟨S64, .i32⟩
  | _ => ⟨S64x1000000, .f32⟩

abbrev hbmTy (i : Nat) : BufTy := match i / 128 with
  | 0 => hbmTy0_0 i
  | 1 => hbmTy0_1 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_5 : Ref sig .tc := ⟨.hbm, 25, rfl⟩
abbrev main_v18 : Ref sig .tc := ⟨.hbm, 26, rfl⟩
abbrev main_v19 : Ref sig .tc := ⟨.hbm, 27, rfl⟩
abbrev main_c_6 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_7 : Ref sig .tc := ⟨.hbm, 34, rfl⟩
abbrev main_v25 : Ref sig .tc := ⟨.hbm, 35, rfl⟩
abbrev main_v26 : Ref sig .tc := ⟨.hbm, 36, rfl⟩
abbrev main_c_8 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_9 : Ref sig .tc := ⟨.hbm, 43, rfl⟩
abbrev main_v32 : Ref sig .tc := ⟨.hbm, 44, rfl⟩
abbrev main_v33 : Ref sig .tc := ⟨.hbm, 45, rfl⟩
abbrev main_c_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_11 : Ref sig .tc := ⟨.hbm, 51, rfl⟩
abbrev main_v38 : Ref sig .tc := ⟨.hbm, 52, rfl⟩
abbrev main_v39 : Ref sig .tc := ⟨.hbm, 53, rfl⟩
abbrev main_c_12 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_13 : Ref sig .tc := ⟨.hbm, 58, rfl⟩
abbrev main_v43 : Ref sig .tc := ⟨.hbm, 59, rfl⟩
abbrev main_v44 : Ref sig .tc := ⟨.hbm, 60, rfl⟩
abbrev main_c_14 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_15 : Ref sig .tc := ⟨.hbm, 67, rfl⟩
abbrev main_v50 : Ref sig .tc := ⟨.hbm, 68, rfl⟩
abbrev main_v51 : Ref sig .tc := ⟨.hbm, 69, rfl⟩
abbrev main_c_16 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_17 : Ref sig .tc := ⟨.hbm, 76, rfl⟩
abbrev main_v57 : Ref sig .tc := ⟨.hbm, 77, rfl⟩
abbrev main_v58 : Ref sig .tc := ⟨.hbm, 78, rfl⟩
abbrev main_c_18 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_19 : Ref sig .tc := ⟨.hbm, 85, rfl⟩
abbrev main_v64 : Ref sig .tc := ⟨.hbm, 86, rfl⟩
abbrev main_v65 : Ref sig .tc := ⟨.hbm, 87, rfl⟩
abbrev main_c_20 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_21 : Ref sig .tc := ⟨.hbm, 93, rfl⟩
abbrev main_v70 : Ref sig .tc := ⟨.hbm, 94, rfl⟩
abbrev main_v71 : Ref sig .tc := ⟨.hbm, 95, rfl⟩
abbrev main_c_22 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_23 : Ref sig .tc := ⟨.hbm, 100, rfl⟩
abbrev main_v75 : Ref sig .tc := ⟨.hbm, 101, rfl⟩
abbrev main_v76 : Ref sig .tc := ⟨.hbm, 102, rfl⟩
abbrev main_c_24 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_25 : Ref sig .tc := ⟨.hbm, 109, rfl⟩
abbrev main_v82 : Ref sig .tc := ⟨.hbm, 110, rfl⟩
abbrev main_v83 : Ref sig .tc := ⟨.hbm, 111, rfl⟩
abbrev main_c_26 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_27 : Ref sig .tc := ⟨.hbm, 118, rfl⟩
abbrev main_v89 : Ref sig .tc := ⟨.hbm, 119, rfl⟩
abbrev main_v90 : Ref sig .tc := ⟨.hbm, 120, rfl⟩
abbrev main_c_28 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_29 : Ref sig .tc := ⟨.hbm, 127, rfl⟩
abbrev main_v96 : Ref sig .tc := ⟨.hbm, 128, rfl⟩
abbrev main_v97 : Ref sig .tc := ⟨.hbm, 129, rfl⟩
abbrev main_c_30 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_31 : Ref sig .tc := ⟨.hbm, 135, rfl⟩
abbrev main_v102 : Ref sig .tc := ⟨.hbm, 136, rfl⟩
abbrev main_v103 : Ref sig .tc := ⟨.hbm, 137, rfl⟩
abbrev main_c_32 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_33 : Ref sig .tc := ⟨.hbm, 142, rfl⟩
abbrev main_v107 : Ref sig .tc := ⟨.hbm, 143, rfl⟩
abbrev main_v108 : Ref sig .tc := ⟨.hbm, 144, rfl⟩
abbrev main_c_34 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_35 : Ref sig .tc := ⟨.hbm, 151, rfl⟩
abbrev main_v114 : Ref sig .tc := ⟨.hbm, 152, rfl⟩
abbrev main_v115 : Ref sig .tc := ⟨.hbm, 153, rfl⟩
abbrev main_c_36 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_37 : Ref sig .tc := ⟨.hbm, 160, rfl⟩
abbrev main_v121 : Ref sig .tc := ⟨.hbm, 161, rfl⟩
abbrev main_v122 : Ref sig .tc := ⟨.hbm, 162, rfl⟩
abbrev main_c_38 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_39 : Ref sig .tc := ⟨.hbm, 169, rfl⟩
abbrev main_v128 : Ref sig .tc := ⟨.hbm, 170, rfl⟩
abbrev main_v129 : Ref sig .tc := ⟨.hbm, 171, rfl⟩
abbrev main_c_40 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_41 : Ref sig .tc := ⟨.hbm, 177, rfl⟩
abbrev main_v134 : Ref sig .tc := ⟨.hbm, 178, rfl⟩
abbrev main_v135 : Ref sig .tc := ⟨.hbm, 179, rfl⟩
abbrev main_c_42 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_c_43 : Ref sig .tc := ⟨.hbm, 184, rfl⟩
abbrev main_v139 : Ref sig .tc := ⟨.hbm, 185, rfl⟩
abbrev main_v140 : Ref sig .tc := ⟨.hbm, 186, rfl⟩
abbrev main_c_44 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_45 : Ref sig .tc := ⟨.hbm, 193, rfl⟩
abbrev main_v146 : Ref sig .tc := ⟨.hbm, 194, rfl⟩
abbrev main_v147 : Ref sig .tc := ⟨.hbm, 195, rfl⟩
abbrev main_c_46 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_c_47 : Ref sig .tc := ⟨.hbm, 202, rfl⟩
abbrev main_v153 : Ref sig .tc := ⟨.hbm, 203, rfl⟩
abbrev main_v154 : Ref sig .tc := ⟨.hbm, 204, rfl⟩
abbrev main_c_48 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_c_49 : Ref sig .tc := ⟨.hbm, 211, rfl⟩
abbrev main_v160 : Ref sig .tc := ⟨.hbm, 212, rfl⟩
abbrev main_v161 : Ref sig .tc := ⟨.hbm, 213, rfl⟩
abbrev main_c_50 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_c_51 : Ref sig .tc := ⟨.hbm, 219, rfl⟩
abbrev main_v166 : Ref sig .tc := ⟨.hbm, 220, rfl⟩
abbrev main_v167 : Ref sig .tc := ⟨.hbm, 221, rfl⟩
abbrev main_c_52 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_53 : Ref sig .tc := ⟨.hbm, 226, rfl⟩
abbrev main_v171 : Ref sig .tc := ⟨.hbm, 227, rfl⟩
abbrev main_v172 : Ref sig .tc := ⟨.hbm, 228, rfl⟩
abbrev main_c_54 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst : Ref sig .tc := ⟨.hbm, 233, rfl⟩
abbrev main_v176 : Ref sig .tc := ⟨.hbm, 234, rfl⟩
abbrev main_v177 : Ref sig .tc := ⟨.hbm, 235, rfl⟩
abbrev main_cst_55 : Ref sig .tc := ⟨.hbm, 236, rfl⟩
abbrev main_v178 : Ref sig .tc := ⟨.hbm, 237, rfl⟩
abbrev main_v179 : Ref sig .tc := ⟨.hbm, 238, rfl⟩
abbrev main_cst_56 : Ref sig .tc := ⟨.hbm, 239, rfl⟩
abbrev main_v180 : Ref sig .tc := ⟨.hbm, 240, rfl⟩
abbrev main_v181 : Ref sig .tc := ⟨.hbm, 241, rfl⟩
abbrev main_cst_57 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_call0_v0 : Ref sig .tc := ⟨.hbm, 250, rfl⟩
abbrev main_call0_cst : Ref sig .tc := ⟨.hbm, 251, rfl⟩
abbrev main_call0_c : Ref sig .tc := ⟨.hbm, 252, rfl⟩
abbrev main_call0_v1_0 : Ref sig .tc := ⟨.hbm, 253, rfl⟩
abbrev main_v189 : Ref sig .tc := ⟨.hbm, 254, rfl⟩

abbrev nD : Nat := 1
abbrev τ : Topo := Topo.v7x

variable {F : FTy → Type} [FloatOps F]
-- ==== Proof.Cipher.lean ====
/-
  The random draw as functions on whole vectors, in the order the printed kernels compute it: the Threefry-2x32 block
  cipher of the counter (0, flat) under the key (0, 42), and the Gumbel variate of the 32 bits it returns. Both are
  elementwise; what one element of them is, is `Lanes.lean`'s.
-/
module

public import Idealize.ShloMosaic.PureOps

@[expose] public section

noncomputable section

namespace Cert.Proof

open Idealize.ShloMosaic

variable {F : FTy → Type} [FloatOps F] {s : Shape}

/-- `x1` rotated left by `a` (`b` is `32 - a`), then combined with `x0`. -/
def rotx (a b : BitVec 32) (x1 x0 : IVec s 32) : IVec s 32 :=
  xori (ori (shli x1 (broadcast s a)) (shrui x1 (broadcast s b))) x0

/-- One round of the cipher, then `K` at the two words. -/
def round (a b : BitVec 32) (x0 x1 : IVec s 32) (K : IVec s 32 → IVec s 32 → IVec s 32) : IVec s 32 :=
  K (addi x0 x1) (rotx a b x1 (addi x0 x1))

/-- One key injection, then `K`. -/
def inject (a b : BitVec 32) (x0 x1 : IVec s 32) (K : IVec s 32 → IVec s 32 → IVec s 32) : IVec s 32 :=
  K (addi x0 (broadcast s a)) (addi x1 (broadcast s b))

/-- The last three rounds of an even group (the first one is apart, since the kernel writes the very first round shorter). -/
def tailA (x0 x1 : IVec s 32) (K : IVec s 32 → IVec s 32 → IVec s 32) : IVec s 32 :=
  round 15#32 17#32 x0 x1 fun x0 x1 => round 26#32 6#32 x0 x1 fun x0 x1 => round 6#32 26#32 x0 x1 K
/-- An even group of four rounds. -/
def groupA (x0 x1 : IVec s 32) (K : IVec s 32 → IVec s 32 → IVec s 32) : IVec s 32 :=
  round 13#32 19#32 x0 x1 fun x0 x1 => tailA x0 x1 K
/-- An odd group of four rounds. -/
def groupB (x0 x1 : IVec s 32) (K : IVec s 32 → IVec s 32 → IVec s 32) : IVec s 32 :=
  round 17#32 15#32 x0 x1 fun x0 x1 => round 29#32 3#32 x0 x1 fun x0 x1 => round 16#32 16#32 x0 x1 fun x0 x1 =>
    round 24#32 8#32 x0 x1 K

/-- What follows the first group. -/
def cipherRest (x0 x1 : IVec s 32) : IVec s 32 :=
  inject 42#32 466689009#32 x0 x1 fun x0 x1 => groupB x0 x1 fun x0 x1 =>
  inject 466689008#32 2#32 x0 x1 fun x0 x1 => groupA x0 x1 fun x0 x1 =>
  inject 0#32 45#32 x0 x1 fun x0 x1 => groupB x0 x1 fun x0 x1 =>
  inject 42#32 466689012#32 x0 x1 fun x0 x1 => groupA x0 x1 fun x0 x1 =>
  inject 466689008#32 5#32 x0 x1 fun x0 x1 => xori x0 x1

/-- The first group of the keyed counter `y = flat + 42`, its first round written short, and what follows. -/
def cipherFrom (y : IVec s 32) : IVec s 32 := tailA y (rotx 13#32 19#32 y y) cipherRest

/-- The 32 random bits of the counter `flat`. -/
def cipher (flat : IVec s 32) : IVec s 32 := cipherFrom (addi flat (broadcast s 42#32))

/-- The Gumbel variate of 32 random bits: 23 of them make a float in [0, 1), which the least positive normal number
    lifts off zero. -/
def gumbel (bits : IVec s 32) : FVec F s .f32 :=
  let unit := subf (bitcastToFloat .f32 (ori (shrui bits (broadcast s 9#32)) (broadcast s 1065353216#32)))
    (broadcast s (Scalar.ofBits (F := F) .f32 0x3F800000#32))
  let u := addf unit (broadcast s (Scalar.ofBits (F := F) .f32 0x00800000#32))
  let e := subf (broadcast s (Scalar.ofBits (F := F) .f32 0x00000000#32)) (log u)
  subf (broadcast s (Scalar.ofBits (F := F) .f32 0x00000000#32)) (log e)

end Cert.Proof

end
-- ==== Proof.CipherLanes.lean ====
/-
  The cipher works lane by lane: reading its result at chosen positions is the cipher of the counters at those positions.
-/
module

public import proofs.«01_k».proof.Proof.Cipher

@[expose] public section

noncomputable section

namespace Cert.Proof

open Idealize.ShloMosaic

variable {s s' : Shape} (g : s'.Idx → s.Idx)

/-- `K'` on the chosen lanes is `K` read at them. -/
def Lanes (K : IVec s 32 → IVec s 32 → IVec s 32) (K' : IVec s' 32 → IVec s' 32 → IVec s' 32) : Prop :=
  ∀ x0 x1, (fun j => K x0 x1 (g j)) = K' (fun j => x0 (g j)) (fun j => x1 (g j))

variable {g} {K : IVec s 32 → IVec s 32 → IVec s 32} {K' : IVec s' 32 → IVec s' 32 → IVec s' 32}

/-- A round is lane by lane if what follows is. -/
theorem lanes_round (a b : BitVec 32) (h : Lanes g K K') : Lanes g (fun x0 x1 => round a b x0 x1 K) (fun x0 x1 => round a b x0 x1 K') :=
  fun x0 x1 => h (addi x0 x1) (rotx a b x1 (addi x0 x1))
/-- So is a key injection. -/
theorem lanes_inject (a b : BitVec 32) (h : Lanes g K K') : Lanes g (fun x0 x1 => inject a b x0 x1 K) (fun x0 x1 => inject a b x0 x1 K') :=
  fun x0 x1 => h (addi x0 (broadcast s a)) (addi x1 (broadcast s b))
/-- So are three rounds of an even group, -/
theorem lanes_tailA (h : Lanes g K K') : Lanes g (fun x0 x1 => tailA x0 x1 K) (fun x0 x1 => tailA x0 x1 K') :=
  lanes_round _ _ (lanes_round _ _ (lanes_round _ _ h))
/-- an even group, -/
theorem lanes_groupA (h : Lanes g K K') : Lanes g (fun x0 x1 => groupA x0 x1 K) (fun x0 x1 => groupA x0 x1 K') :=
  lanes_round _ _ (lanes_tailA h)
/-- and an odd one. -/
theorem lanes_groupB (h : Lanes g K K') : Lanes g (fun x0 x1 => groupB x0 x1 K) (fun x0 x1 => groupB x0 x1 K') :=
  lanes_round _ _ (lanes_round _ _ (lanes_round _ _ (lanes_round _ _ h)))

/-- What follows the first group is lane by lane. -/
theorem lanes_cipherRest : Lanes g cipherRest cipherRest :=
  lanes_inject _ _ <| lanes_groupB <| lanes_inject _ _ <| lanes_groupA <| lanes_inject _ _ <| lanes_groupB <|
    lanes_inject _ _ <| lanes_groupA <| lanes_inject _ _ fun _ _ => rfl

/-- The cipher read at chosen lanes. -/
theorem cipher_lanes (g : s'.Idx → s.Idx) (flat : IVec s 32) : (fun j => cipher flat (g j)) = cipher fun j => flat (g j) :=
  lanes_tailA (g := g) lanes_cipherRest (addi flat (broadcast s 42#32)) (rotx 13#32 19#32 (addi flat (broadcast s 42#32)) (addi flat (broadcast s 42#32)))

/-- A shape of one lane. -/
abbrev Lane : Shape := ⟨1, fun _ => 1⟩

/-- The random bits of one counter. -/
def bitsOf (w : BitVec 32) : BitVec 32 := cipher (s := Lane) (fun _ => w) fun _ => 0

/-- A lane of the cipher is the bits of its counter. -/
theorem cipher_apply (flat : IVec s 32) (j : s.Idx) : cipher flat j = bitsOf (flat j) :=
  congrFun (cipher_lanes (s' := Lane) (fun _ => j) flat) fun _ => 0

end Cert.Proof

end
-- ==== Proof.TailText.lean ====
/-
  The tail kernel's body as a loop: the printed body is 32 copies of one step, one per block of 256 columns, between an
  initialization at the first grid point and the write of the result at the last. Here the step is written once and the
  copies are a recursion; that the printed body is this is by unfolding both.
-/
module

public import proofs.«01_k».proof.Proof.Cipher
public import proofs.«01_k».proof.Proof.Gen.KernelIdeal

@[expose] public section

noncomputable section

namespace Cert.Proof.KernelIdeal

open Cert.KernelIdeal Cert.KernelIdeal.Gen

open Idealize.ShloMosaic Idealize.SL.Sem

variable {F : FTy → Type} [FloatOps F]

/-- Row number times the row length, at each element of a block. -/
def rowBase : IVec S64x256 32 := muli (iota .tc S64x256 32 [0] iota_S64x256_d0_w32) (broadcast S64x256 1000000#32)
/-- The columns of the block of 256 whose first is `c`. -/
def colsAt (c : BitVec 32) : IVec S64x256 32 := addi (iota .tc S64x256 32 [1] iota_S64x256_d1_w32) (broadcast S64x256 c)
/-- No best value yet. -/
def sv0 : FVec F S64x256 .f32 := broadcast S64x256 (Scalar.ofBits (F := F) .f32 0xFF800000#32)
/-- No best position yet. -/
def si0 : IVec S64x256 32 := broadcast S64x256 0#32

/-- One lane-wise update: where the score beats the best so far, it is the best. -/
def updV (s sv : FVec F S64x256 .f32) : FVec F S64x256 .f32 := select (cmpf .ogt s sv) s sv
/-- The position that goes with it. -/
def updI (s sv : FVec F S64x256 .f32) (flat si : IVec S64x256 32) : IVec S64x256 32 := select (cmpf .ogt s sv) flat si

/-- The tail's scores of one block: the logits plus the Gumbel variates of the stored bits, nothing past the last column. -/
def tailScore (c : BitVec 32) (b : Vec F S1x64x256 .i32) (l : Vec F S64x256 .f32) : FVec F S64x256 .f32 :=
  select (cmpi .ult (colsAt c) (broadcast S64x256 1000000#32))
    (addf l (gumbel (F := F) (shapeCast S64x256 b shapeCasts_S1x64x256_S64x256)))
    (broadcast S64x256 (Scalar.ofBits (F := F) .f32 0xFF800000#32))

/-- A sub-block of the tail kernel's bits lies in its block. -/
theorem inb_bits (k : ℕ) (hk : k < 32) : ∀ a, ![0, 0, 256 * k] a + S1x64x256.size a ≤ S1x64x8192.size a := by
  intro a; fin_cases a <;> simp; omega
/-- A sub-block of the tail kernel's logits lies in its block. -/
theorem inb_logits2 (k : ℕ) (hk : k < 32) : ∀ a, ![0, 256 * k] a + S64x256.size a ≤ S64x8192.size a := by
  intro a; fin_cases a <;> simp; omega

/-- The last `n` of the 32 steps, then `K` at the best values and positions. -/
def tailLoop (base : BitVec 32) (arg1 : Memref sig .tc .vmem S1x64x8192 .i32) (arg2 : Memref sig .tc .vmem S64x8192 .f32)
    (K : FVec F S64x256 .f32 → IVec S64x256 32 → Prog (TpuEff nD τ sig (Elt F) Λ₀ .tc) PUnit) :
    (n : ℕ) → n ≤ 32 → FVec F S64x256 .f32 → IVec S64x256 32 → Prog (TpuEff nD τ sig (Elt F) Λ₀ .tc) PUnit
  | 0, _, sv, si => K sv si
  | n + 1, h, sv, si => do
    let b : Vec F S1x64x256 .i32 ← Prog.lift (.load arg1 (Rect.unit (s := S1x64x8192) ![0, 0, 256 * (31 - n)] S1x64x256.size (inb_bits (31 - n) (by omega))).toLoadRect (View.loadsAt_vmem h_S1x64x256))
    let l : Vec F S64x256 .f32 ← Prog.lift (.load arg2 (Rect.unit (s := S64x8192) ![0, 256 * (31 - n)] S64x256.size (inb_logits2 (31 - n) (by omega))).toLoadRect (View.loadsAt_vmem h_S64x256))
    let c := Scalar.addi base (BitVec.ofNat 32 (256 * (31 - n)))
    tailLoop base arg1 arg2 K n (by omega) (updV (tailScore c b l) sv) (updI (tailScore c b l) sv (addi rowBase (colsAt c)) si)

/-- The best of each row over the lanes. -/
def rowMax (sv : FVec F S64x256 .f32) : FVec F S64x1 .f32 :=
  shapeCast S64x1 (multiReduction .maximumf [1] S64 sv 0xFF800000#32 reduces_S64x256_S64 (.inl rfl) rfl) shapeCasts_S64_S64x1
/-- The least position of a lane that holds it. -/
def rowIdx (sv : FVec F S64x256 .f32) (si : IVec S64x256 32) : IVec S64x1 32 :=
  shapeCast S64x1 (multiReductionI .minsi [1] S64
    (select (cmpf .oeq sv (broadcastTo S64x256 (rowMax sv) broadcasts_S64x1_S64x256)) si (broadcast S64x256 2147483647#32))
    2147483647#32 reduces_S64x256_S64 rfl) shapeCasts_S64_S64x1

/-- The whole one-column rectangle. -/
abbrev rcol : Rect S64x1 := Rect.unit (s := S64x1) ![0, 0] S64x1.size inb_S64x1_S64x1_0_0

/-- Reset the running best. -/
def initText (argv : Memref sig .tc .vmem S64x1 .f32) (argi : Memref sig .tc .vmem S64x1 .i32)
    (K : Prog (TpuEff nD τ sig (Elt F) Λ₀ .tc) PUnit) : Prog (TpuEff nD τ sig (Elt F) Λ₀ .tc) PUnit := do
  let _ : Vec F S64x1 .f32 ← Prog.lift (.load argv (Rect.unit (s := S64x1) ![0, 0] S64x1.size inb_S64x1_S64x1_0_0).toLoadRect (View.loadsAt_vmem h_S64x1))
  Prog.lift (.store argv (Rect.unit (s := S64x1) ![0, 0] S64x1.size inb_S64x1_S64x1_0_0) (shapeCast S64x1 (broadcast S64x1 (Scalar.ofBits (F := F) .f32 0xFF800000#32)) shapeCasts_S64x1_S64x1) Finset.univ (View.stores_vmem_bits_univ h_S64x1 rfl) (.inl rfl))
  let _ : Vec F S64x1 .i32 ← Prog.lift (.load argi (Rect.unit (s := S64x1) ![0, 0] S64x1.size inb_S64x1_S64x1_0_0).toLoadRect (View.loadsAt_vmem h_S64x1))
  Prog.lift (.store argi (Rect.unit (s := S64x1) ![0, 0] S64x1.size inb_S64x1_S64x1_0_0) (shapeCast S64x1 (broadcast S64x1 0#32) shapeCasts_S64x1_S64x1) Finset.univ (View.stores_vmem_bits_univ h_S64x1 rfl) (.inl rfl))
  K

/-- Merge a block's best `m` at `idx` into the running best, then `K`. -/
def mergeText (argv : Memref sig .tc .vmem S64x1 .f32) (argi : Memref sig .tc .vmem S64x1 .i32)
    (m : FVec F S64x1 .f32) (idx : IVec S64x1 32)
    (K : Prog (TpuEff nD τ sig (Elt F) Λ₀ .tc) PUnit) : Prog (TpuEff nD τ sig (Elt F) Λ₀ .tc) PUnit := do
  let b : Vec F S64x1 .f32 ← Prog.lift (.load argv (Rect.unit (s := S64x1) ![0, 0] S64x1.size inb_S64x1_S64x1_0_0).toLoadRect (View.loadsAt_vmem h_S64x1))
  let p : Vec F S64x1 .i32 ← Prog.lift (.load argi (Rect.unit (s := S64x1) ![0, 0] S64x1.size inb_S64x1_S64x1_0_0).toLoadRect (View.loadsAt_vmem h_S64x1))
  let _ : Vec F S64x1 .i32 ← Prog.lift (.load argi (Rect.unit (s := S64x1) ![0, 0] S64x1.size inb_S64x1_S64x1_0_0).toLoadRect (View.loadsAt_vmem h_S64x1))
  Prog.lift (.store argi (Rect.unit (s := S64x1) ![0, 0] S64x1.size inb_S64x1_S64x1_0_0) (shapeCast S64x1 (select (cmpf .ogt m b) idx p) shapeCasts_S64x1_S64x1) Finset.univ (View.stores_vmem_bits_univ h_S64x1 rfl) (.inl rfl))
  let b' : Vec F S64x1 .f32 ← Prog.lift (.load argv (Rect.unit (s := S64x1) ![0, 0] S64x1.size inb_S64x1_S64x1_0_0).toLoadRect (View.loadsAt_vmem h_S64x1))
  let _ : Vec F S64x1 .f32 ← Prog.lift (.load argv (Rect.unit (s := S64x1) ![0, 0] S64x1.size inb_S64x1_S64x1_0_0).toLoadRect (View.loadsAt_vmem h_S64x1))
  Prog.lift (.store argv (Rect.unit (s := S64x1) ![0, 0] S64x1.size inb_S64x1_S64x1_0_0) (shapeCast S64x1 (select (cmpf .ogt m b) m b') shapeCasts_S64x1_S64x1) Finset.univ (View.stores_vmem_bits_univ h_S64x1 rfl) (.inl rfl))
  K

/-- Write the running best out when `c` says so, the position as a column. -/
def emitText (c : Prop) [Decidable c] (outv : Memref sig .tc .vmem S64x1 .f32) (outi : Memref sig .tc .vmem S64x1 .i32)
    (argv : Memref sig .tc .vmem S64x1 .f32) (argi : Memref sig .tc .vmem S64x1 .i32) : Prog (TpuEff nD τ sig (Elt F) Λ₀ .tc) PUnit := do
  if h : c then do
    let b : Vec F S64x1 .f32 ← Prog.lift (.load argv (Rect.unit (s := S64x1) ![0, 0] S64x1.size inb_S64x1_S64x1_0_0).toLoadRect (View.loadsAt_vmem h_S64x1))
    let _ : Vec F S64x1 .f32 ← Prog.lift (.load outv (Rect.unit (s := S64x1) ![0, 0] S64x1.size inb_S64x1_S64x1_0_0).toLoadRect (View.loadsAt_vmem h_S64x1))
    Prog.lift (.store outv (Rect.unit (s := S64x1) ![0, 0] S64x1.size inb_S64x1_S64x1_0_0) b Finset.univ (View.stores_vmem_bits_univ h_S64x1 rfl) (.inl rfl))
    let p : Vec F S64x1 .i32 ← Prog.lift (.load argi (Rect.unit (s := S64x1) ![0, 0] S64x1.size inb_S64x1_S64x1_0_0).toLoadRect (View.loadsAt_vmem h_S64x1))
    let _ : Vec F S64x1 .i32 ← Prog.lift (.load outi (Rect.unit (s := S64x1) ![0, 0] S64x1.size inb_S64x1_S64x1_0_0).toLoadRect (View.loadsAt_vmem h_S64x1))
    Prog.lift (.store outi (Rect.unit (s := S64x1) ![0, 0] S64x1.size inb_S64x1_S64x1_0_0) (subi p (muli (iota .tc S64x1 32 [0] iota_S64x1_d0_w32) (broadcast S64x1 1000000#32))) Finset.univ (View.stores_vmem_bits_univ h_S64x1 rfl) (.inl rfl))
    pure ⟨⟩
  else do
    pure ⟨⟩
  pure ⟨⟩

/-- Whether a grid point is number zero, as the kernels compute it. -/
def isFirst (j : ℕ) : BitVec 1 := Scalar.cmpi .ne (Scalar.extui (Scalar.cmpi .eq (BitVec.ofNat 32 j) 0#32) : BitVec 32) 0#32

/-- The tail body after its initialization. -/
def tailText (i : grid2.Coords) (arg1 : Memref sig .tc .vmem S1x64x8192 .i32) (arg2 : Memref sig .tc .vmem S64x8192 .f32)
    (arg3 : Memref sig .tc .vmem S64x1 .f32) (arg4 : Memref sig .tc .vmem S64x1 .i32)
    (arg5 : Memref sig .tc .vmem S64x1 .f32) (arg6 : Memref sig .tc .vmem S64x1 .i32) : Prog (TpuEff nD τ sig (Elt F) Λ₀ .tc) PUnit :=
  tailLoop (Scalar.addi 720896#32 (Scalar.muli 8192#32 (BitVec.ofNat 32 (i 0).val))) arg1 arg2
    (fun sv si => mergeText arg5 arg6 (rowMax sv) (rowIdx sv si) (emitText (k2_cond2 i = 1#1) arg3 arg4 arg5 arg6)) 32 le_rfl sv0 si0

variable (i : grid2.Coords) (arg1 : Memref sig .tc .vmem S1x64x8192 .i32) (harg1 : arg1.IsWhole) (arg2 : Memref sig .tc .vmem S64x8192 .f32) (harg2 : arg2.IsWhole)
    (arg3 : Memref sig .tc .vmem S64x1 .f32) (harg3 : arg3.IsWhole) (arg4 : Memref sig .tc .vmem S64x1 .i32) (harg4 : arg4.IsWhole)
    (arg5 : Memref sig .tc .vmem S64x1 .f32) (harg5 : arg5.IsWhole) (arg6 : Memref sig .tc .vmem S64x1 .i32) (harg6 : arg6.IsWhole)

set_option maxRecDepth 100000 in
set_option maxHeartbeats 4000000 in
/-- The printed tail body at a grid point that is not the first. -/
theorem tail_text_rest (h : ¬ isFirst (i 0).val = 1#1) :
    cc2__tail_body (F := F) i arg1 harg1 arg2 harg2 arg3 harg3 arg4 harg4 arg5 harg5 arg6 harg6
      = tailText i arg1 arg2 arg3 arg4 arg5 arg6 := by
  unfold cc2__tail_body
  rw [show k2_part1 (F := F) i arg1 harg1 arg2 harg2 arg3 harg3 arg4 harg4 arg5 harg5 arg6 harg6 = _ from by
    unfold k2_part1; exact dif_neg h]
  rfl

set_option maxRecDepth 100000 in
set_option maxHeartbeats 4000000 in
/-- The printed tail body at the first grid point: the reset comes first. -/
theorem tail_text_first (h : isFirst (i 0).val = 1#1) :
    cc2__tail_body (F := F) i arg1 harg1 arg2 harg2 arg3 harg3 arg4 harg4 arg5 harg5 arg6 harg6
      = initText arg5 arg6 (tailText i arg1 arg2 arg3 arg4 arg5 arg6) := by
  unfold cc2__tail_body
  rw [show k2_part1 (F := F) i arg1 harg1 arg2 harg2 arg3 harg3 arg4 harg4 arg5 harg5 arg6 harg6 = _ from by
    unfold k2_part1; exact dif_pos h]
  rfl

end Cert.Proof.KernelIdeal

end
-- ==== Proof.BitsText.lean ====
/-
  The SparseCore kernel's body as two loops over the chunks of a row, each filling the tile's buffer with the bits of a
  chunk's counters and copying it out.
-/
module

public import proofs.«01_k».proof.Proof.CipherLanes
public import proofs.«01_k».proof.Proof.TailText

@[expose] public section

noncomputable section

namespace Cert.Proof.KernelIdeal

open Cert.KernelIdeal Cert.KernelIdeal.Gen

open Idealize.ShloMosaic Idealize.SL.Sem

variable {F : FTy → Type} [FloatOps F]

/-- The programs of the tile at coordinates `i`. -/
abbrev TileProg (F : FTy → Type) (i : grid0.Coords) : Type → Type _ :=
  Prog (TpuEff nD τ sig (Elt F) Λ₀ (.scVector ((i 0).castLE hcore0) ((i 1).castLE hsub0)))

variable (i : grid0.Coords) (arg2 : Memref sig .scVector .hbm S35x64x8192 .i32)
  (arg3 : Memref sig .scVector .vmem S8192 .i32) (harg3 : arg3.IsWhole)

/-- One trip of the inner loop: sixteen lanes of bits, from the counter `base`. -/
def bitsTrip (base : BitVec 32) (t : Fin k0_t2_loop.trips) : TileProg F i PUnit := do
  let _ : Vec F S16 .i32 ← Prog.lift (.load arg3 (Rect.unit (s := S8192) (k0_off1 t) S16.size (k0_off1_inb t)).toLoadRect (View.loadsAt_vmem h_S16))
  Prog.lift (.store arg3 (Rect.unit (s := S8192) (k0_off1 t) S16.size (k0_off1_inb t)) (shapeCast S16 (cipher (addi (iota .scVector S16 32 [0] iota_S16_d0_w32_scVector) (broadcast S16 (Scalar.addi base (Scalar.muli 16#32 (Scf.iv 0#32 1#32 t)))))) shapeCasts_S16_S16) Finset.univ (View.stores_vmem_bits_univ h_S16 rfl) (.inl rfl))
  pure ⟨⟩

/-- A chunk of a row, as the copies address it. -/
abbrev pieceAt (off : Fin 3 → ℕ) (inb : ∀ a, off a + S1x1x8192.size a ≤ S35x64x8192.size a) : Memref sig .scVector .hbm S8192 .i32 :=
  (arg2.slice (Rect.unit (s := S35x64x8192) off S1x1x8192.size inb) (fun _ => rfl)).squeeze S8192 squeezes_S1x1x8192_S8192

/-- A row's loop over its chunks: fill the buffer, copy it out, wait. -/
def rowLoop (sem : DmaSem sig) (off : Fin k0_t1_loop.trips → Fin 3 → ℕ) (inb : ∀ t a, off t a + S1x1x8192.size a ≤ S35x64x8192.size a)
    (base : BitVec 32) : TileProg F i PUnit :=
  Scf.Loop.for k0_t1_loop k0_t1_ok ⟨⟩ fun t1 _ => do
    Scf.Loop.for k0_t2_loop k0_t2_ok ⟨⟩ fun t2 _ => bitsTrip i arg3 (Scalar.addi base (Scalar.muli 8192#32 (Scf.iv 0#32 1#32 t1))) t2
    Prog.lift (.enqueueDma arg3 (.here (pieceAt arg2 (off t1) (inb t1))) (.dma sem) harg3.wordExact ((View.wordExact_bits rfl).reshape _ _) ⟨Or.inl rfl, trivial⟩)
    Prog.lift (.waitDma2 sem arg3 (pieceAt arg2 (off t1) (inb t1)) harg3.wordExact ((View.wordExact_bits rfl).reshape _ _))
    pure ⟨⟩

/-- The first counter of row `r` (0 or 1) of the tile's two. -/
abbrev rowStart (r : BitVec 32) : BitVec 32 :=
  Scalar.addi (Scalar.muli (Scalar.addi (Scalar.muli (Scalar.addi (Scalar.muli (BitVec.ofNat 32 (i 1).val) 2#32) (BitVec.ofNat 32 (i 0).val)) 2#32) r) 1000000#32) 720896#32

set_option maxRecDepth 100000 in
set_option maxHeartbeats 400000 in
/-- The body is the two rows' loops. -/
theorem bits_text (harg2 : arg2.IsWhole) (v16_r0 v16_r1 : DmaSems sig S_) :
    cc0__sc_bits (F := F) i arg2 harg2 arg3 harg3 v16_r0 v16_r1 = (do
      rowLoop i arg2 arg3 harg3 v16_r0.sem (k0_off2 i) (k0_off2_inb i) (rowStart i 0#32)
      rowLoop i arg2 arg3 harg3 v16_r1.sem (k0_off4 i) (k0_off4_inb i) (rowStart i 1#32)
      pure ⟨⟩) := rfl

end Cert.Proof.KernelIdeal

end
-- ==== Proof.Own.lean ====
/-
  Two steps on an owned memref: a load reads the contents through its rectangle, and a store of the whole replaces them.
-/
module

public import Idealize.ShloMosaic.Lib.Memref
public import Idealize.ShloMosaic.Lib.Writes
public import Idealize.ShloMosaic.Lib.Pipeline.Value
public import Idealize.ShloMosaic.Lib.Tactic

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} [Preorder Lvl] {Λ : Labels}
variable {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at the head of a program from a memref owned at `X`: the program goes on at what the rectangle reads of `X`. -/
theorem wp_load_owned {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    iprop(owns c m q X ∗ (owns c m q X -∗ wp frame (wpE defs 𝒱 c bd) E (k (View.ld X r)) Q))
      ⊢ wp frame (wpE defs 𝒱 c bd) E (.op (.load m r.toLoadRect hl) k) Q := by
  unfold owns
  iintro ⟨⟨%f, %hf, Hf⟩, Hk⟩
  subst hf
  iapply (wp_load 𝒱 c bd E (m := m) (r := r.toLoadRect) (hl := hl) (k := k) (q := q) (f := f) (S := m.view.set)
    (m.view.setOn_subset_set _)) $$ Hf
  iintro Hf
  iapply Hk
  iexists f
  isplitr
  · ipureintro; rfl
  · iexact Hf

/-- A store over the whole of a memref owned at any contents: the program goes on owning it at what was stored. -/
theorem wp_store_owned {cs : CoreSpace} {m : Memref sig c.2.kind cs s e} {off : Fin s.rank → Nat} (h0 : off = fun _ => 0)
    {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    iprop(owns c m fullShare X ∗ (owns c m fullShare w -∗ wp frame (wpE defs 𝒱 c bd) E (k ⟨⟩) Q))
      ⊢ wp frame (wpE defs 𝒱 c bd) E (.op (.store m (Rect.unit off s.size inb) w Finset.univ hx hm) k) Q := by
  unfold owns
  iintro ⟨⟨%f, -, Hf⟩, Hk⟩
  iapply (wp_store_writes₀ 𝒱 c bd E (m := m) (r := Rect.unit off s.size inb) (w := w) (hx := hx) (hm := hm) (k := k) (f := f)
    (S := m.view.set) (m.view.set_slice_subset _)) $$ Hf
  iintro Hf
  iapply Hk
  iexists _
  isplitr
  swap; · iexact Hf
  ipureintro
  subst h0
  funext y
  have e := View.read_writes_cons_emb m.view f (Rect.unit (fun _ => 0) s.size inb) w [] y
  rw [show (Rect.unit (fun _ => 0) s.size inb).emb y = y from Rect.emb_whole_apply s y] at e
  exact e

/-- A store over a rectangle of a memref owned at `X`: the rectangle's part becomes what was stored. -/
theorem wp_store_part {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    iprop(owns c m fullShare X ∗ (owns c m fullShare (r.overlay X w) -∗ wp frame (wpE defs 𝒱 c bd) E (k ⟨⟩) Q))
      ⊢ wp frame (wpE defs 𝒱 c bd) E (.op (.store m r w Finset.univ hx hm) k) Q := by
  unfold owns
  iintro ⟨⟨%f, %hf, Hf⟩, Hk⟩
  subst hf
  iapply (wp_store_writes₀ 𝒱 c bd E (m := m) (r := r) (w := w) (hx := hx) (hm := hm) (k := k) (f := f)
    (S := m.view.set) (m.view.set_slice_subset _)) $$ Hf
  iintro Hf
  iapply Hk
  iexists _
  isplitr
  swap; · iexact Hf
  ipureintro
  funext y
  by_cases hy : y ∈ r.set
  · obtain ⟨x, rfl⟩ := r.exists_idx_of_mem hy
    exact (View.read_writes_cons_emb m.view f r w [] x).trans (r.overlay_emb (m.view.read Val f) w x).symm
  · rw [r.overlay_of_not_mem _ _ hy]
    exact View.read_writes_cons_miss m.view f ⟨r, w⟩ [] y hy

end Cert.Proof

end
-- ==== Proof.TailBody.lean ====
/-
  What the pieces of the two TensorCore bodies do to the buffers they own: the reset, the merge of a block's best into the
  running best, the write of the result, and the tail's 32 steps as a fold of the block's contents.
-/
module

public import proofs.«01_k».proof.Proof.Own
public import proofs.«01_k».proof.Proof.TailText

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernels' variants: none. -/
abbrev 𝒱₀ : Variants := Variants.none

/-- The two ways of writing the origin. -/
theorem zero2 : (![0, 0] : Fin 2 → ℕ) = fun _ => 0 := funext fun a => by fin_cases a <;> rfl

/-- The running best before the first point. -/
def accV0 : FVec F S64x1 .f32 :=
  shapeCast S64x1 (broadcast S64x1 (Scalar.ofBits (F := F) .f32 0xFF800000#32)) shapeCasts_S64x1_S64x1
/-- Its position. -/
def accI0 : IVec S64x1 32 := shapeCast S64x1 (broadcast S64x1 0#32) shapeCasts_S64x1_S64x1

/-- The running best `b` after a block whose best is `m`. -/
def mergeV (m b : FVec F S64x1 .f32) : FVec F S64x1 .f32 :=
  shapeCast S64x1 (select (cmpf .ogt m b) m b) shapeCasts_S64x1_S64x1
/-- Its position, `idx` the block's and `p` the one before. -/
def mergeI (m b : FVec F S64x1 .f32) (idx p : IVec S64x1 32) : IVec S64x1 32 :=
  shapeCast S64x1 (select (cmpf .ogt m b) idx p) shapeCasts_S64x1_S64x1
/-- The column of a position. -/
def colOf (p : IVec S64x1 32) : IVec S64x1 32 :=
  subi p (muli (iota .tc S64x1 32 [0] iota_S64x1_d0_w32) (broadcast S64x1 1000000#32))

section Steps

variable {Ix : Type} [DecidableEq Ix] {Name : Type} [DecidableEq Name] {U : Type} [URA U] {Lvl : Type} [Preorder Lvl]
variable (c : Dev nD) (E : Set Name) {Q : PUnit → sProp (MT nD τ sig Ix (Elt F) Name U Lvl)}

/-- The reset leaves the running best at nothing yet. -/
theorem wp_initText (argv : Memref sig .tc .vmem S64x1 .f32) (argi : Memref sig .tc .vmem S64x1 .i32)
    (K : Prog (TpuEff nD τ sig (Elt F) Λ₀ .tc) PUnit) (b : FVec F S64x1 .f32) (p : IVec S64x1 32) :
    iprop((owns (c : Thread nD τ) argv fullShare b ∗ owns (c : Thread nD τ) argi fullShare p)
        ∗ (iprop(owns (c : Thread nD τ) argv fullShare (accV0 (F := F)) ∗ owns (c : Thread nD τ) argi fullShare accI0)
            -∗ wp frame (wpE (defs₀ (F := F)) 𝒱₀ c none) E K Q))
      ⊢ wp frame (wpE (defs₀ (F := F)) 𝒱₀ c none) E (initText argv argi K) Q := by
  unfold initText
  simp only [Prog.lift, Prog.bind_op, Prog.bind_ret]
  iintro ⟨⟨Hv, Hi⟩, Hk⟩
  iapply (wp_load_owned 𝒱₀ (c : Thread nD τ) none E (m := argv) (q := fullShare) (X := b))
  isplitl [Hv]; · iexact Hv
  iintro Hv
  iapply (wp_store_owned 𝒱₀ (c : Thread nD τ) none E (m := argv) (off := ![0, 0]) zero2 (w := accV0 (F := F)) (X := b))
  isplitl [Hv]; · iexact Hv
  iintro Hv
  iapply (wp_load_owned 𝒱₀ (c : Thread nD τ) none E (m := argi) (q := fullShare) (X := p))
  isplitl [Hi]; · iexact Hi
  iintro Hi
  iapply (wp_store_owned 𝒱₀ (c : Thread nD τ) none E (m := argi) (off := ![0, 0]) zero2 (w := accI0) (X := p))
  isplitl [Hi]; · iexact Hi
  iintro Hi
  iapply Hk
  isplitl [Hv]; · iexact Hv
  iexact Hi

/-- The merge. -/
theorem wp_mergeText (argv : Memref sig .tc .vmem S64x1 .f32) (argi : Memref sig .tc .vmem S64x1 .i32)
    (m : FVec F S64x1 .f32) (idx : IVec S64x1 32)
    (K : Prog (TpuEff nD τ sig (Elt F) Λ₀ .tc) PUnit) (b : FVec F S64x1 .f32) (p : IVec S64x1 32) :
    iprop((owns (c : Thread nD τ) argv fullShare b ∗ owns (c : Thread nD τ) argi fullShare p)
        ∗ (iprop(owns (c : Thread nD τ) argv fullShare (mergeV m b) ∗ owns (c : Thread nD τ) argi fullShare (mergeI m b idx p))
            -∗ wp frame (wpE (defs₀ (F := F)) 𝒱₀ c none) E K Q))
      ⊢ wp frame (wpE (defs₀ (F := F)) 𝒱₀ c none) E (mergeText argv argi m idx K) Q := by
  have hv (X : Vec F S64x1 .f32) := View.ld_unit_zero (Val := Elt F) (S := S64x1) (off := ![0, 0]) zero2 inb_S64x1_S64x1_0_0 X
  have hi (X : Vec F S64x1 .i32) := View.ld_unit_zero (Val := Elt F) (S := S64x1) (off := ![0, 0]) zero2 inb_S64x1_S64x1_0_0 X
  unfold mergeText
  simp only [Prog.lift, Prog.bind_op, Prog.bind_ret]
  iintro ⟨⟨Hv, Hi⟩, Hk⟩
  iapply (wp_load_owned 𝒱₀ (c : Thread nD τ) none E (m := argv) (q := fullShare) (X := b))
  isplitl [Hv]; · iexact Hv
  iintro Hv
  iapply (wp_load_owned 𝒱₀ (c : Thread nD τ) none E (m := argi) (q := fullShare) (X := p))
  isplitl [Hi]; · iexact Hi
  iintro Hi
  iapply (wp_load_owned 𝒱₀ (c : Thread nD τ) none E (m := argi) (q := fullShare) (X := p))
  isplitl [Hi]; · iexact Hi
  iintro Hi
  rw [hv, hi]
  iapply (wp_store_owned 𝒱₀ (c : Thread nD τ) none E (m := argi) (off := ![0, 0]) zero2 (w := mergeI m b idx p) (X := p))
  isplitl [Hi]; · iexact Hi
  iintro Hi
  iapply (wp_load_owned 𝒱₀ (c : Thread nD τ) none E (m := argv) (q := fullShare) (X := b))
  isplitl [Hv]; · iexact Hv
  iintro Hv
  iapply (wp_load_owned 𝒱₀ (c : Thread nD τ) none E (m := argv) (q := fullShare) (X := b))
  isplitl [Hv]; · iexact Hv
  iintro Hv
  rw [hv]
  iapply (wp_store_owned 𝒱₀ (c : Thread nD τ) none E (m := argv) (off := ![0, 0]) zero2 (w := mergeV m b) (X := b))
  isplitl [Hv]; · iexact Hv
  iintro Hv
  iapply Hk
  isplitl [Hv]; · iexact Hv
  iexact Hi

/-- The write of the result, where the condition holds: the running best and its column. -/
theorem wp_emitText (g : Prop) [Decidable g] (outv : Memref sig .tc .vmem S64x1 .f32) (outi : Memref sig .tc .vmem S64x1 .i32)
    (argv : Memref sig .tc .vmem S64x1 .f32) (argi : Memref sig .tc .vmem S64x1 .i32)
    (ov b : FVec F S64x1 .f32) (oi p : IVec S64x1 32) :
    iprop((owns (c : Thread nD τ) outv fullShare ov ∗ owns (c : Thread nD τ) outi fullShare oi
          ∗ owns (c : Thread nD τ) argv fullShare b ∗ owns (c : Thread nD τ) argi fullShare p)
        ∗ (iprop(owns (c : Thread nD τ) outv fullShare (if g then b else ov) ∗ owns (c : Thread nD τ) outi fullShare (if g then colOf p else oi)
            ∗ owns (c : Thread nD τ) argv fullShare b ∗ owns (c : Thread nD τ) argi fullShare p) -∗ Q ⟨⟩))
      ⊢ wp frame (wpE (defs₀ (F := F)) 𝒱₀ c none) E (emitText g outv outi argv argi) Q := by
  have hv (X : Vec F S64x1 .f32) := View.ld_unit_zero (Val := Elt F) (S := S64x1) (off := ![0, 0]) zero2 inb_S64x1_S64x1_0_0 X
  have hi (X : Vec F S64x1 .i32) := View.ld_unit_zero (Val := Elt F) (S := S64x1) (off := ![0, 0]) zero2 inb_S64x1_S64x1_0_0 X
  unfold emitText
  by_cases h : g
  · simp only [h, ↓reduceDIte, ↓reduceIte, Prog.lift, Prog.bind_op, Prog.bind_ret]
    iintro ⟨⟨Hov, Hoi, Hv, Hi⟩, Hk⟩
    iapply (wp_load_owned 𝒱₀ (c : Thread nD τ) none E (m := argv) (q := fullShare) (X := b))
    isplitl [Hv]; · iexact Hv
    iintro Hv
    iapply (wp_load_owned 𝒱₀ (c : Thread nD τ) none E (m := outv) (q := fullShare) (X := ov))
    isplitl [Hov]; · iexact Hov
    iintro Hov
    rw [hv]
    iapply (wp_store_owned 𝒱₀ (c : Thread nD τ) none E (m := outv) (off := ![0, 0]) zero2 (w := b) (X := ov))
    isplitl [Hov]; · iexact Hov
    iintro Hov
    iapply (wp_load_owned 𝒱₀ (c : Thread nD τ) none E (m := argi) (q := fullShare) (X := p))
    isplitl [Hi]; · iexact Hi
    iintro Hi
    iapply (wp_load_owned 𝒱₀ (c : Thread nD τ) none E (m := outi) (q := fullShare) (X := oi))
    isplitl [Hoi]; · iexact Hoi
    iintro Hoi
    rw [hi]
    iapply (wp_store_owned 𝒱₀ (c : Thread nD τ) none E (m := outi) (off := ![0, 0]) zero2 (w := colOf p) (X := oi))
    isplitl [Hoi]; · iexact Hoi
    iintro Hoi
    simp only [wp_bind, wp_pure]
    imodintro
    iapply Hk
    isplitl [Hov]; · iexact Hov
    isplitl [Hoi]; · iexact Hoi
    isplitl [Hv]; · iexact Hv
    iexact Hi
  · simp only [h, ↓reduceDIte, ↓reduceIte]
    iintro ⟨H, Hk⟩
    simp only [wp_bind, wp_pure]
    imodintro
    iapply Hk
    iexact H

/-- The best values and positions after the last `n` of the tail's 32 steps. -/
def tailFold (base : BitVec 32) (B : Vec F S1x64x8192 .i32) (L : Vec F S64x8192 .f32) :
    (n : ℕ) → n ≤ 32 → FVec F S64x256 .f32 → IVec S64x256 32 → FVec F S64x256 .f32 × IVec S64x256 32
  | 0, _, sv, si => (sv, si)
  | n + 1, h, sv, si =>
    tailFold base B L n (by omega)
      (updV (tailScore (Scalar.addi base (BitVec.ofNat 32 (256 * (31 - n))))
        (View.ld (Val := Elt F) (e' := .i32) B (Rect.unit (s := S1x64x8192) ![0, 0, 256 * (31 - n)] S1x64x256.size (inb_bits (31 - n) (by omega))))
        (View.ld (Val := Elt F) (e' := .f32) L (Rect.unit (s := S64x8192) ![0, 256 * (31 - n)] S64x256.size (inb_logits2 (31 - n) (by omega))))) sv)
      (updI (tailScore (Scalar.addi base (BitVec.ofNat 32 (256 * (31 - n))))
        (View.ld (Val := Elt F) (e' := .i32) B (Rect.unit (s := S1x64x8192) ![0, 0, 256 * (31 - n)] S1x64x256.size (inb_bits (31 - n) (by omega))))
        (View.ld (Val := Elt F) (e' := .f32) L (Rect.unit (s := S64x8192) ![0, 256 * (31 - n)] S64x256.size (inb_logits2 (31 - n) (by omega))))) sv
        (addi rowBase (colsAt (Scalar.addi base (BitVec.ofNat 32 (256 * (31 - n)))))) si)

/-- The tail's steps fold the two blocks' contents, which stay. -/
theorem wp_tailLoop (base : BitVec 32) (arg1 : Memref sig .tc .vmem S1x64x8192 .i32) (arg2 : Memref sig .tc .vmem S64x8192 .f32)
    (K : FVec F S64x256 .f32 → IVec S64x256 32 → Prog (TpuEff nD τ sig (Elt F) Λ₀ .tc) PUnit)
    (B : Vec F S1x64x8192 .i32) (L : Vec F S64x8192 .f32) :
    ∀ (n : ℕ) (h : n ≤ 32) (sv : FVec F S64x256 .f32) (si : IVec S64x256 32),
    iprop((owns (c : Thread nD τ) arg1 fullShare B ∗ owns (c : Thread nD τ) arg2 fullShare L)
        ∗ (iprop(owns (c : Thread nD τ) arg1 fullShare B ∗ owns (c : Thread nD τ) arg2 fullShare L)
          -∗ wp frame (wpE (defs₀ (F := F)) 𝒱₀ c none) E (K (tailFold base B L n h sv si).1 (tailFold base B L n h sv si).2) Q))
      ⊢ wp frame (wpE (defs₀ (F := F)) 𝒱₀ c none) E (tailLoop base arg1 arg2 K n h sv si) Q
  | 0, _, sv, si => by
    unfold tailLoop tailFold
    iintro ⟨H, Hk⟩
    iapply Hk
    iexact H
  | n + 1, h, sv, si => by
    unfold tailLoop tailFold
    simp only [Prog.lift, Prog.bind_op, Prog.bind_ret]
    iintro ⟨⟨H1, H2⟩, Hk⟩
    iapply (wp_load_owned 𝒱₀ (c : Thread nD τ) none E (m := arg1) (q := fullShare) (X := B))
    isplitl [H1]; · iexact H1
    iintro H1
    iapply (wp_load_owned 𝒱₀ (c : Thread nD τ) none E (m := arg2) (q := fullShare) (X := L))
    isplitl [H2]; · iexact H2
    iintro H2
    iapply (wp_tailLoop base arg1 arg2 K B L n _ _ _)
    isplitl [H1 H2]
    · isplitl [H1]; · iexact H1
      iexact H2
    iexact Hk

end Steps

end Cert.Proof.KernelIdeal

end
-- ==== Proof.MainText.lean ====
/-
  The main kernel's body as a loop, as `TailText.lean` has the tail's: 64 copies of one step, which computes its random
  bits itself.
-/
module

public import proofs.«01_k».proof.Proof.Cipher
public import proofs.«01_k».proof.Proof.TailText

@[expose] public section

noncomputable section

namespace Cert.Proof.KernelIdeal

open Cert.KernelIdeal Cert.KernelIdeal.Gen

open Idealize.ShloMosaic Idealize.SL.Sem

variable {F : FTy → Type} [FloatOps F]

/-- The main kernel's scores of one block. -/
def mainScore (c : BitVec 32) (l : Vec F S64x256 .f32) : FVec F S64x256 .f32 :=
  addf l (gumbel (F := F) (cipher (addi rowBase (colsAt c))))

/-- A sub-block of the main kernel's logits lies in its block. -/
theorem inb_logits1 (k : ℕ) (hk : k < 64) : ∀ a, ![0, 256 * k] a + S64x256.size a ≤ S64x16384.size a := by
  intro a; fin_cases a <;> simp; omega

/-- The last `n` of the 64 steps, then `K` at the best values and positions. -/
def mainLoop (base : BitVec 32) (arg1 : Memref sig .tc .vmem S64x16384 .f32)
    (K : FVec F S64x256 .f32 → IVec S64x256 32 → Prog (TpuEff nD τ sig (Elt F) Λ₀ .tc) PUnit) :
    (n : ℕ) → n ≤ 64 → FVec F S64x256 .f32 → IVec S64x256 32 → Prog (TpuEff nD τ sig (Elt F) Λ₀ .tc) PUnit
  | 0, _, sv, si => K sv si
  | n + 1, h, sv, si => do
    let l : Vec F S64x256 .f32 ← Prog.lift (.load arg1 (Rect.unit (s := S64x16384) ![0, 256 * (63 - n)] S64x256.size (inb_logits1 (63 - n) (by omega))).toLoadRect (View.loadsAt_vmem h_S64x256))
    let c := Scalar.addi base (BitVec.ofNat 32 (256 * (63 - n)))
    mainLoop base arg1 K n (by omega) (updV (mainScore c l) sv) (updI (mainScore c l) sv (addi rowBase (colsAt c)) si)

/-- The main body after its initialization. -/
def mainText (i : grid1.Coords) (arg1 : Memref sig .tc .vmem S64x16384 .f32)
    (arg2 : Memref sig .tc .vmem S64x1 .f32) (arg3 : Memref sig .tc .vmem S64x1 .i32)
    (arg4 : Memref sig .tc .vmem S64x1 .f32) (arg5 : Memref sig .tc .vmem S64x1 .i32) : Prog (TpuEff nD τ sig (Elt F) Λ₀ .tc) PUnit :=
  mainLoop (Scalar.muli 16384#32 (BitVec.ofNat 32 (i 0).val)) arg1
    (fun sv si => mergeText arg4 arg5 (rowMax sv) (rowIdx sv si) (emitText (k1_cond2 i = 1#1) arg2 arg3 arg4 arg5)) 64 le_rfl sv0 si0

variable (i : grid1.Coords) (arg1 : Memref sig .tc .vmem S64x16384 .f32) (harg1 : arg1.IsWhole)
    (arg2 : Memref sig .tc .vmem S64x1 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .i32) (harg5 : arg5.IsWhole)

set_option maxRecDepth 100000 in
set_option maxHeartbeats 4000000 in
/-- The printed main body at a grid point that is not the first. -/
theorem main_text_rest (h : ¬ isFirst (i 0).val = 1#1) :
    cc1__main_body (F := F) i arg1 harg1 arg2 harg2 arg3 harg3 arg4 harg4 arg5 harg5
      = mainText i arg1 arg2 arg3 arg4 arg5 := by
  unfold cc1__main_body k1_part264
  rw [show k1_part1 (F := F) i arg1 harg1 arg2 harg2 arg3 harg3 arg4 harg4 arg5 harg5 = _ from by
    unfold k1_part1; exact dif_neg h]
  rfl

set_option maxRecDepth 100000 in
set_option maxHeartbeats 4000000 in
/-- The printed main body at the first grid point: the reset comes first. -/
theorem main_text_first (h : isFirst (i 0).val = 1#1) :
    cc1__main_body (F := F) i arg1 harg1 arg2 harg2 arg3 harg3 arg4 harg4 arg5 harg5
      = initText arg4 arg5 (mainText i arg1 arg2 arg3 arg4 arg5) := by
  unfold cc1__main_body k1_part264
  rw [show k1_part1 (F := F) i arg1 harg1 arg2 harg2 arg3 harg3 arg4 harg4 arg5 harg5 = _ from by
    unfold k1_part1; exact dif_pos h]
  rfl

end Cert.Proof.KernelIdeal

end
-- ==== Proof.MainBody.lean ====
/-
  The two TensorCore bodies, whole, on the buffers they own: a block's steps folded, its best merged into the running best,
  the result written at the last grid point.
-/
module

public import proofs.«01_k».proof.Proof.TailBody
public import proofs.«01_k».proof.Proof.MainText

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The best values and positions after the last `n` of the main body's 64 steps. -/
def mainFold (base : BitVec 32) (L : Vec F S64x16384 .f32) :
    (n : ℕ) → n ≤ 64 → FVec F S64x256 .f32 → IVec S64x256 32 → FVec F S64x256 .f32 × IVec S64x256 32
  | 0, _, sv, si => (sv, si)
  | n + 1, h, sv, si =>
    mainFold base L n (by omega)
      (updV (mainScore (Scalar.addi base (BitVec.ofNat 32 (256 * (63 - n))))
        (View.ld (Val := Elt F) (e' := .f32) L (Rect.unit (s := S64x16384) ![0, 256 * (63 - n)] S64x256.size (inb_logits1 (63 - n) (by omega))))) sv)
      (updI (mainScore (Scalar.addi base (BitVec.ofNat 32 (256 * (63 - n))))
        (View.ld (Val := Elt F) (e' := .f32) L (Rect.unit (s := S64x16384) ![0, 256 * (63 - n)] S64x256.size (inb_logits1 (63 - n) (by omega))))) sv
        (addi rowBase (colsAt (Scalar.addi base (BitVec.ofNat 32 (256 * (63 - n)))))) si)

/-- A running best and its position. -/
abbrev Best (F : FTy → Type) : Type := FVec F S64x1 .f32 × IVec S64x1 32

/-- Nothing yet. -/
def best0 : Best F := (accV0 (F := F), accI0)

/-- The running best after a block whose lanes hold `f`. -/
def mergeBest (f : FVec F S64x256 .f32 × IVec S64x256 32) (a : Best F) : Best F :=
  (mergeV (rowMax f.1) a.1, mergeI (rowMax f.1) a.1 (rowIdx f.1 f.2) a.2)

/-- The main body at grid point `j` on the block `L`. -/
def mainPoint (j : ℕ) (L : Vec F S64x16384 .f32) (a : Best F) : Best F :=
  mergeBest (mainFold (Scalar.muli 16384#32 (BitVec.ofNat 32 j)) L 64 le_rfl sv0 si0) a

/-- The tail body at grid point `j` on the blocks `B` and `L`. -/
def tailPoint (j : ℕ) (B : Vec F S1x64x8192 .i32) (L : Vec F S64x8192 .f32) (a : Best F) : Best F :=
  mergeBest (tailFold (Scalar.addi 720896#32 (Scalar.muli 8192#32 (BitVec.ofNat 32 j))) B L 32 le_rfl sv0 si0) a

section Steps

variable {Ix : Type} [DecidableEq Ix] {Name : Type} [DecidableEq Name] {U : Type} [URA U] {Lvl : Type} [Preorder Lvl]
variable (c : Dev nD) (E : Set Name) {Q : PUnit → sProp (MT nD τ sig Ix (Elt F) Name U Lvl)}

/-- The main body's steps fold the block's contents, which stay. -/
theorem wp_mainLoop (base : BitVec 32) (arg1 : Memref sig .tc .vmem S64x16384 .f32)
    (K : FVec F S64x256 .f32 → IVec S64x256 32 → Prog (TpuEff nD τ sig (Elt F) Λ₀ .tc) PUnit) (L : Vec F S64x16384 .f32) :
    ∀ (n : ℕ) (h : n ≤ 64) (sv : FVec F S64x256 .f32) (si : IVec S64x256 32),
    iprop(owns (c : Thread nD τ) arg1 fullShare L
        ∗ (owns (c : Thread nD τ) arg1 fullShare L
          -∗ wp frame (wpE (defs₀ (F := F)) 𝒱₀ c none) E (K (mainFold base L n h sv si).1 (mainFold base L n h sv si).2) Q))
      ⊢ wp frame (wpE (defs₀ (F := F)) 𝒱₀ c none) E (mainLoop base arg1 K n h sv si) Q
  | 0, _, sv, si => by
    unfold mainLoop mainFold
    iintro ⟨H, Hk⟩
    iapply Hk
    iexact H
  | n + 1, h, sv, si => by
    unfold mainLoop mainFold
    simp only [Prog.lift, Prog.bind_op, Prog.bind_ret]
    iintro ⟨H1, Hk⟩
    iapply (wp_load_owned 𝒱₀ (c : Thread nD τ) none E (m := arg1) (q := fullShare) (X := L))
    isplitl [H1]; · iexact H1
    iintro H1
    iapply (wp_mainLoop base arg1 K L n _ _ _)
    isplitl [H1]; · iexact H1
    iexact Hk

/-- The end of both bodies: the merge, then the write of the result where the condition holds. -/
theorem wp_finish (g : Prop) [Decidable g] (outv : Memref sig .tc .vmem S64x1 .f32) (outi : Memref sig .tc .vmem S64x1 .i32)
    (argv : Memref sig .tc .vmem S64x1 .f32) (argi : Memref sig .tc .vmem S64x1 .i32)
    (f : FVec F S64x256 .f32 × IVec S64x256 32) (a : Best F) (ov : FVec F S64x1 .f32) (oi : IVec S64x1 32) :
    iprop((owns (c : Thread nD τ) outv fullShare ov ∗ owns (c : Thread nD τ) outi fullShare oi
          ∗ owns (c : Thread nD τ) argv fullShare a.1 ∗ owns (c : Thread nD τ) argi fullShare a.2)
        ∗ (iprop(owns (c : Thread nD τ) outv fullShare (if g then (mergeBest f a).1 else ov)
            ∗ owns (c : Thread nD τ) outi fullShare (if g then colOf (mergeBest f a).2 else oi)
            ∗ owns (c : Thread nD τ) argv fullShare (mergeBest f a).1 ∗ owns (c : Thread nD τ) argi fullShare (mergeBest f a).2) -∗ Q ⟨⟩))
      ⊢ wp frame (wpE (defs₀ (F := F)) 𝒱₀ c none) E
          (mergeText argv argi (rowMax f.1) (rowIdx f.1 f.2) (emitText g outv outi argv argi)) Q := by
  iintro ⟨⟨Hov, Hoi, Hv, Hi⟩, Hk⟩
  iapply (wp_mergeText c E argv argi (rowMax f.1) (rowIdx f.1 f.2) (emitText g outv outi argv argi) a.1 a.2)
  isplitl [Hv Hi]
  · isplitl [Hv]; · iexact Hv
    iexact Hi
  iintro ⟨Hv, Hi⟩
  iapply (wp_emitText c E g outv outi argv argi ov (mergeBest f a).1 oi (mergeBest f a).2)
  isplitl [Hov Hoi Hv Hi]
  · isplitl [Hov]; · iexact Hov
    isplitl [Hoi]; · iexact Hoi
    isplitl [Hv]; · iexact Hv
    iexact Hi
  iexact Hk

section Main

variable (i : grid1.Coords) (arg1 : Memref sig .tc .vmem S64x16384 .f32) (harg1 : arg1.IsWhole)
    (arg2 : Memref sig .tc .vmem S64x1 .f32) (harg2 : arg2.IsWhole) (arg3 : Memref sig .tc .vmem S64x1 .i32) (harg3 : arg3.IsWhole)
    (arg4 : Memref sig .tc .vmem S64x1 .f32) (harg4 : arg4.IsWhole) (arg5 : Memref sig .tc .vmem S64x1 .i32) (harg5 : arg5.IsWhole)

/-- The main body after its reset. -/
theorem wp_mainText (L : Vec F S64x16384 .f32) (a : Best F) (ov : FVec F S64x1 .f32) (oi : IVec S64x1 32) :
    iprop((owns (c : Thread nD τ) arg1 fullShare L ∗ owns (c : Thread nD τ) arg2 fullShare ov ∗ owns (c : Thread nD τ) arg3 fullShare oi
          ∗ owns (c : Thread nD τ) arg4 fullShare a.1 ∗ owns (c : Thread nD τ) arg5 fullShare a.2)
        ∗ (iprop(owns (c : Thread nD τ) arg1 fullShare L
            ∗ owns (c : Thread nD τ) arg2 fullShare (if k1_cond2 i = 1#1 then (mainPoint (i 0).val L a).1 else ov)
            ∗ owns (c : Thread nD τ) arg3 fullShare (if k1_cond2 i = 1#1 then colOf (mainPoint (i 0).val L a).2 else oi)
            ∗ owns (c : Thread nD τ) arg4 fullShare (mainPoint (i 0).val L a).1
            ∗ owns (c : Thread nD τ) arg5 fullShare (mainPoint (i 0).val L a).2) -∗ Q ⟨⟩))
      ⊢ wp frame (wpE (defs₀ (F := F)) 𝒱₀ c none) E (mainText i arg1 arg2 arg3 arg4 arg5) Q := by
  unfold mainText
  iintro ⟨⟨H1, H⟩, Hk⟩
  iapply (wp_mainLoop c E _ arg1 _ L 64 le_rfl sv0 si0)
  isplitl [H1]; · iexact H1
  iintro H1
  iapply (wp_finish c E (k1_cond2 i = 1#1) arg2 arg3 arg4 arg5 _ a ov oi)
  isplitl [H]; · iexact H
  iintro H
  iapply Hk
  isplitl [H1]; · iexact H1
  iexact H

/-- The main body at a grid point that is not the first. -/
theorem wp_main_rest (h : ¬ isFirst (i 0).val = 1#1) (L : Vec F S64x16384 .f32) (a : Best F) (ov : FVec F S64x1 .f32) (oi : IVec S64x1 32) :
    iprop((owns (c : Thread nD τ) arg1 fullShare L ∗ owns (c : Thread nD τ) arg2 fullShare ov ∗ owns (c : Thread nD τ) arg3 fullShare oi
          ∗ owns (c : Thread nD τ) arg4 fullShare a.1 ∗ owns (c : Thread nD τ) arg5 fullShare a.2)
        ∗ (iprop(owns (c : Thread nD τ) arg1 fullShare L
            ∗ owns (c : Thread nD τ) arg2 fullShare (if k1_cond2 i = 1#1 then (mainPoint (i 0).val L a).1 else ov)
            ∗ owns (c : Thread nD τ) arg3 fullShare (if k1_cond2 i = 1#1 then colOf (mainPoint (i 0).val L a).2 else oi)
            ∗ owns (c : Thread nD τ) arg4 fullShare (mainPoint (i 0).val L a).1
            ∗ owns (c : Thread nD τ) arg5 fullShare (mainPoint (i 0).val L a).2) -∗ Q ⟨⟩))
      ⊢ wp frame (wpE (defs₀ (F := F)) 𝒱₀ c none) E
          (cc1__main_body (F := F) i arg1 harg1 arg2 harg2 arg3 harg3 arg4 harg4 arg5 harg5) Q := by
  rw [main_text_rest i arg1 harg1 arg2 harg2 arg3 harg3 arg4 harg4 arg5 harg5 h]
  exact wp_mainText c E i arg1 arg2 arg3 arg4 arg5 L a ov oi

/-- The main body at the first grid point: whatever the running best held, it starts at nothing yet. -/
theorem wp_main_first (h : isFirst (i 0).val = 1#1) (L : Vec F S64x16384 .f32) (b ov : FVec F S64x1 .f32) (p oi : IVec S64x1 32) :
    iprop((owns (c : Thread nD τ) arg1 fullShare L ∗ owns (c : Thread nD τ) arg2 fullShare ov ∗ owns (c : Thread nD τ) arg3 fullShare oi
          ∗ owns (c : Thread nD τ) arg4 fullShare b ∗ owns (c : Thread nD τ) arg5 fullShare p)
        ∗ (iprop(owns (c : Thread nD τ) arg1 fullShare L
            ∗ owns (c : Thread nD τ) arg2 fullShare (if k1_cond2 i = 1#1 then (mainPoint (i 0).val L best0).1 else ov)
            ∗ owns (c : Thread nD τ) arg3 fullShare (if k1_cond2 i = 1#1 then colOf (mainPoint (i 0).val L best0).2 else oi)
            ∗ owns (c : Thread nD τ) arg4 fullShare (mainPoint (i 0).val L best0).1
            ∗ owns (c : Thread nD τ) arg5 fullShare (mainPoint (i 0).val L best0).2) -∗ Q ⟨⟩))
      ⊢ wp frame (wpE (defs₀ (F := F)) 𝒱₀ c none) E
          (cc1__main_body (F := F) i arg1 harg1 arg2 harg2 arg3 harg3 arg4 harg4 arg5 harg5) Q := by
  rw [main_text_first i arg1 harg1 arg2 harg2 arg3 harg3 arg4 harg4 arg5 harg5 h]
  iintro ⟨⟨H1, H2, H3, H4, H5⟩, Hk⟩
  iapply (wp_initText c E arg4 arg5 _ b p)
  isplitl [H4 H5]
  · isplitl [H4]; · iexact H4
    iexact H5
  iintro ⟨H4, H5⟩
  iapply (wp_mainText c E i arg1 arg2 arg3 arg4 arg5 L best0 ov oi)
  isplitl [H1 H2 H3 H4 H5]
  · isplitl [H1]; · iexact H1
    isplitl [H2]; · iexact H2
    isplitl [H3]; · iexact H3
    isplitl [H4]; · iexact H4
    iexact H5
  iexact Hk

end Main

section Tail

variable (i : grid2.Coords) (arg1 : Memref sig .tc .vmem S1x64x8192 .i32) (harg1 : arg1.IsWhole) (arg2 : Memref sig .tc .vmem S64x8192 .f32) (harg2 : arg2.IsWhole)
    (arg3 : Memref sig .tc .vmem S64x1 .f32) (harg3 : arg3.IsWhole) (arg4 : Memref sig .tc .vmem S64x1 .i32) (harg4 : arg4.IsWhole)
    (arg5 : Memref sig .tc .vmem S64x1 .f32) (harg5 : arg5.IsWhole) (arg6 : Memref sig .tc .vmem S64x1 .i32) (harg6 : arg6.IsWhole)

/-- The tail body after its reset. -/
theorem wp_tailText (B : Vec F S1x64x8192 .i32) (L : Vec F S64x8192 .f32) (a : Best F) (ov : FVec F S64x1 .f32) (oi : IVec S64x1 32) :
    iprop(((owns (c : Thread nD τ) arg1 fullShare B ∗ owns (c : Thread nD τ) arg2 fullShare L)
          ∗ owns (c : Thread nD τ) arg3 fullShare ov ∗ owns (c : Thread nD τ) arg4 fullShare oi
          ∗ owns (c : Thread nD τ) arg5 fullShare a.1 ∗ owns (c : Thread nD τ) arg6 fullShare a.2)
        ∗ (iprop((owns (c : Thread nD τ) arg1 fullShare B ∗ owns (c : Thread nD τ) arg2 fullShare L)
            ∗ owns (c : Thread nD τ) arg3 fullShare (if k2_cond2 i = 1#1 then (tailPoint (i 0).val B L a).1 else ov)
            ∗ owns (c : Thread nD τ) arg4 fullShare (if k2_cond2 i = 1#1 then colOf (tailPoint (i 0).val B L a).2 else oi)
            ∗ owns (c : Thread nD τ) arg5 fullShare (tailPoint (i 0).val B L a).1
            ∗ owns (c : Thread nD τ) arg6 fullShare (tailPoint (i 0).val B L a).2) -∗ Q ⟨⟩))
      ⊢ wp frame (wpE (defs₀ (F := F)) 𝒱₀ c none) E (tailText i arg1 arg2 arg3 arg4 arg5 arg6) Q := by
  unfold tailText
  iintro ⟨⟨H1, H⟩, Hk⟩
  iapply (wp_tailLoop c E _ arg1 arg2 _ B L 32 le_rfl sv0 si0)
  isplitl [H1]; · iexact H1
  iintro H1
  iapply (wp_finish c E (k2_cond2 i = 1#1) arg3 arg4 arg5 arg6 _ a ov oi)
  isplitl [H]; · iexact H
  iintro H
  iapply Hk
  isplitl [H1]; · iexact H1
  iexact H

/-- The tail body at a grid point that is not the first. -/
theorem wp_tail_rest (h : ¬ isFirst (i 0).val = 1#1) (B : Vec F S1x64x8192 .i32) (L : Vec F S64x8192 .f32) (a : Best F)
    (ov : FVec F S64x1 .f32) (oi : IVec S64x1 32) :
    iprop(((owns (c : Thread nD τ) arg1 fullShare B ∗ owns (c : Thread nD τ) arg2 fullShare L)
          ∗ owns (c : Thread nD τ) arg3 fullShare ov ∗ owns (c : Thread nD τ) arg4 fullShare oi
          ∗ owns (c : Thread nD τ) arg5 fullShare a.1 ∗ owns (c : Thread nD τ) arg6 fullShare a.2)
        ∗ (iprop((owns (c : Thread nD τ) arg1 fullShare B ∗ owns (c : Thread nD τ) arg2 fullShare L)
            ∗ owns (c : Thread nD τ) arg3 fullShare (if k2_cond2 i = 1#1 then (tailPoint (i 0).val B L a).1 else ov)
            ∗ owns (c : Thread nD τ) arg4 fullShare (if k2_cond2 i = 1#1 then colOf (tailPoint (i 0).val B L a).2 else oi)
            ∗ owns (c : Thread nD τ) arg5 fullShare (tailPoint (i 0).val B L a).1
            ∗ owns (c : Thread nD τ) arg6 fullShare (tailPoint (i 0).val B L a).2) -∗ Q ⟨⟩))
      ⊢ wp frame (wpE (defs₀ (F := F)) 𝒱₀ c none) E
          (cc2__tail_body (F := F) i arg1 harg1 arg2 harg2 arg3 harg3 arg4 harg4 arg5 harg5 arg6 harg6) Q := by
  rw [tail_text_rest i arg1 harg1 arg2 harg2 arg3 harg3 arg4 harg4 arg5 harg5 arg6 harg6 h]
  exact wp_tailText c E i arg1 arg2 arg3 arg4 arg5 arg6 B L a ov oi

/-- The tail body at the first grid point: whatever the running best held, it starts at nothing yet. -/
theorem wp_tail_first (h : isFirst (i 0).val = 1#1) (B : Vec F S1x64x8192 .i32) (L : Vec F S64x8192 .f32)
    (b ov : FVec F S64x1 .f32) (p oi : IVec S64x1 32) :
    iprop(((owns (c : Thread nD τ) arg1 fullShare B ∗ owns (c : Thread nD τ) arg2 fullShare L)
          ∗ owns (c : Thread nD τ) arg3 fullShare ov ∗ owns (c : Thread nD τ) arg4 fullShare oi
          ∗ owns (c : Thread nD τ) arg5 fullShare b ∗ owns (c : Thread nD τ) arg6 fullShare p)
        ∗ (iprop((owns (c : Thread nD τ) arg1 fullShare B ∗ owns (c : Thread nD τ) arg2 fullShare L)
            ∗ owns (c : Thread nD τ) arg3 fullShare (if k2_cond2 i = 1#1 then (tailPoint (i 0).val B L best0).1 else ov)
            ∗ owns (c : Thread nD τ) arg4 fullShare (if k2_cond2 i = 1#1 then colOf (tailPoint (i 0).val B L best0).2 else oi)
            ∗ owns (c : Thread nD τ) arg5 fullShare (tailPoint (i 0).val B L best0).1
            ∗ owns (c : Thread nD τ) arg6 fullShare (tailPoint (i 0).val B L best0).2) -∗ Q ⟨⟩))
      ⊢ wp frame (wpE (defs₀ (F := F)) 𝒱₀ c none) E
          (cc2__tail_body (F := F) i arg1 harg1 arg2 harg2 arg3 harg3 arg4 harg4 arg5 harg5 arg6 harg6) Q := by
  rw [tail_text_first i arg1 harg1 arg2 harg2 arg3 harg3 arg4 harg4 arg5 harg5 arg6 harg6 h]
  iintro ⟨⟨H1, H3, H4, H5, H6⟩, Hk⟩
  iapply (wp_initText c E arg5 arg6 _ b p)
  isplitl [H5 H6]
  · isplitl [H5]; · iexact H5
    iexact H6
  iintro ⟨H5, H6⟩
  iapply (wp_tailText c E i arg1 arg2 arg3 arg4 arg5 arg6 B L best0 ov oi)
  isplitl [H1 H3 H4 H5 H6]
  · isplitl [H1]; · iexact H1
    isplitl [H3]; · iexact H3
    isplitl [H4]; · iexact H4
    isplitl [H5]; · iexact H5
    iexact H6
  iexact Hk

end Tail

end Steps

end Cert.Proof.KernelIdeal

end
-- ==== Proof.Blocks.lean ====
/-
  What the pipelines bring the two TensorCore bodies: the block of logits at a grid point, and the block of random bits. The
  tail's last block of logits runs past the array's end; its scores do not depend on what is there.
-/
module

public import proofs.«01_k».proof.Proof.MainBody
public import proofs.«01_k».proof.Proof.Gen.KernelIdeal.Points
public import proofs.«01_k».proof.Proof.Gen.KernelIdeal.Launch

@[expose] public section

noncomputable section

namespace Cert.Proof.KernelIdeal

open Cert.KernelIdeal Cert.KernelIdeal.Gen

open Idealize.ShloMosaic
open Idealize.ShloMosaic.TcCoe
open Idealize.SL Idealize.SL.Sem

variable {F : FTy → Type} [FloatOps F]

/-- Row `r`, column `c` of the logits. -/
def at2 (r : Fin 64) (c : Fin 1000000) : S64x1000000.Idx := fun | 0 => r | 1 => c
/-- Block `i`, row `r`, lane `l` of the bits. -/
def at3 (i : Fin 35) (r : Fin 64) (l : Fin 8192) : S35x64x8192.Idx := fun | 0 => i | 1 => r | 2 => l

/-- The logit at a column, zero past the last. -/
def logit (X : Vec F S64x1000000 .f32) (r : Fin 64) (c : ℕ) : F .f32 :=
  if h : c < 1000000 then X (at2 r ⟨c, h⟩) else Scalar.ofBits (F := F) .f32 0#32

/-- The main kernel's block of logits at point `n`. -/
def mainBlock (X : Vec F S64x1000000 .f32) (n : ℕ) : Vec F S64x16384 .f32 := fun j => logit X (j 0) (16384 * n + (j 1).val)
/-- The tail kernel's block of logits at point `n`. -/
def tailBlock (X : Vec F S64x1000000 .f32) (n : ℕ) : Vec F S64x8192 .f32 := fun j => logit X (j 0) (720896 + 8192 * n + (j 1).val)
/-- The tail kernel's block of bits at point `n`. -/
def tailBits (V : Vec F S35x64x8192 .i32) (n : Fin 35) : Vec F S1x64x8192 .i32 := fun j => V (at3 n (j 1) (j 2))

/-- The main kernel's grid point is its number. -/
theorem coords1 : ∀ t : Fin grid1.N, ((grid1.coords t) 0).val = t.val := by decide +kernel
/-- The tail kernel's grid point is its number. -/
theorem coords2 : ∀ t : Fin grid2.N, ((grid2.coords t) 0).val = t.val := by decide +kernel
/-- The main kernel writes its results at its last point only. -/
theorem emit1 : ∀ t : Fin grid1.N, (k1_cond2 (grid1.coords t) = 1#1) ↔ t.val % 44 = 43 := by decide +kernel
/-- The tail kernel writes its results at its last point only. -/
theorem emit2 : ∀ t : Fin grid2.N, (k2_cond2 (grid2.coords t) = 1#1) ↔ t.val % 35 = 34 := by decide +kernel
/-- The main kernel starts its bests at its first point only. -/
theorem first1 : ∀ t : Fin grid1.N, (isFirst ((grid1.coords t) 0).val = 1#1) ↔ t.val = 0 := by decide +kernel
/-- The tail kernel starts its bests at its first point only. -/
theorem first2 : ∀ t : Fin grid2.N, (isFirst ((grid2.coords t) 0).val = 1#1) ↔ t.val = 0 := by decide +kernel

/-- The main kernel's block of logits at a point. -/
theorem index1_0 : ∀ t : Fin grid1.N, cc1_transform_0 (grid1.coords t) = ![0, t.val] := by decide +kernel
/-- The tail kernel's block of bits at a point. -/
theorem index2_0 : ∀ t : Fin grid2.N, cc2_transform_0 (grid2.coords t) = ![t.val, 0, 0] := by decide +kernel
/-- The tail kernel's block of logits at a point: the tail starts 88 blocks in. -/
theorem index2_1 : ∀ t : Fin grid2.N, cc2_transform_1 (grid2.coords t) = ![0, t.val + 88] := by decide +kernel
/-- The main kernel's blocks of logits lie wholly in the array. -/
theorem moved1_0 : ∀ t : Fin grid1.N, win1_0.xsize (grid1.coords t) = ![64, 16384] := by decide +kernel
/-- The tail kernel's last block of logits is cut off at the last column. -/
theorem moved2_1 : ∀ t : Fin grid2.N, win2_1.xsize (grid2.coords t) = ![64, min 8192 (1000000 - (720896 + 8192 * t.val))] := by decide +kernel

/-- What the main kernel's block holds after the fetch at point `t`. -/
theorem fill1_0 (X : Vec F S64x1000000 .f32) (t : Fin grid1.N) (d : win1_0.block.Idx → F .f32) :
    win1_0.fill (grid1.coords t) d ((win1_0.blk t).view.read (Elt F) X) = mainBlock X t.val := by
  have ht : t.val < 44 := lt_of_lt_of_eq t.isLt N_1
  funext j
  have h0 : (j 0).val < 64 := (j 0).isLt
  have h1 : (j 1).val < 16384 := (j 1).isLt
  have hm : win1_0.moved (grid1.coords t) j = true := (win1_0.moved_iff _ _).mpr fun a => by
    rw [moved1_0 t]; fin_cases a
    · exact h0
    · exact h1
  have hc : 16384 * t.val + (j 1).val < 1000000 := by omega
  unfold Pipeline.Window.fill mainBlock logit
  rw [dif_pos hm, dif_pos hc]
  show X _ = X _
  refine congrArg X (funext fun a => Fin.ext ?_)
  have hi := index1_0 t
  fin_cases a
  · show cc1_transform_0 (grid1.coords t) 0 * 64 + 1 * (j 0).val = (j 0).val
    rw [hi]; simp
  · show cc1_transform_0 (grid1.coords t) 1 * 16384 + 1 * (j 1).val = 16384 * t.val + (j 1).val
    rw [hi]; simp; omega

/-- What the tail kernel's block of logits holds after the fetch at point `t`, inside the array. -/
theorem fill2_1 (X : Vec F S64x1000000 .f32) (t : Fin grid2.N) (d : win2_1.block.Idx → F .f32) (j : S64x8192.Idx)
    (hj : 720896 + 8192 * t.val + (j 1).val < 1000000) :
    win2_1.fill (grid2.coords t) d ((win2_1.blk t).view.read (Elt F) X) j = tailBlock X t.val j := by
  have ht : t.val < 35 := lt_of_lt_of_eq t.isLt N_2
  have h0 : (j 0).val < 64 := (j 0).isLt
  have h1 : (j 1).val < 8192 := (j 1).isLt
  have hm : win2_1.moved (grid2.coords t) j = true := (win2_1.moved_iff _ _).mpr fun a => by
    rw [moved2_1 t]; fin_cases a
    · exact h0
    · show (j 1).val < min 8192 (1000000 - (720896 + 8192 * t.val)); omega
  unfold Pipeline.Window.fill tailBlock logit
  rw [dif_pos hm, dif_pos hj]
  show X _ = X _
  refine congrArg X (funext fun a => Fin.ext ?_)
  have hi := index2_1 t
  fin_cases a
  · show cc2_transform_1 (grid2.coords t) 0 * 64 + 1 * (j 0).val = (j 0).val
    rw [hi]; simp
  · show cc2_transform_1 (grid2.coords t) 1 * 8192 + 1 * (j 1).val = 720896 + 8192 * t.val + (j 1).val
    rw [hi]; simp; omega

/-- What the tail kernel's block of bits holds after the fetch at point `t`. -/
theorem fill2_0 (V : Vec F S35x64x8192 .i32) (t : Fin grid2.N) :
    (win2_0.blk t).view.read (Elt F) V = tailBits V (Fin.cast N_2 t) := by
  funext j
  have h0 : (j 0).val < 1 := (j 0).isLt
  unfold tailBits
  show V _ = V _
  refine congrArg V (funext fun a => Fin.ext ?_)
  have hi := index2_0 t
  fin_cases a
  · show cc2_transform_0 (grid2.coords t) 0 * 1 + 1 * (j 0).val = t.val
    rw [hi]; simp; omega
  · show cc2_transform_0 (grid2.coords t) 1 * 64 + 1 * (j 1).val = (j 1).val
    rw [hi]; simp
  · show cc2_transform_0 (grid2.coords t) 2 * 8192 + 1 * (j 2).val = (j 2).val
    rw [hi]; simp

/-- The columns of a block, one by one. -/
theorem colsAt_apply (c : BitVec 32) (y : S64x256.Idx) : colsAt c y = BitVec.ofNat 32 (y 1).val + c := by
  show BitVec.ofNat 32 (0 * 256 + (y 1).val) + c = _
  rw [Nat.zero_mul, Nat.zero_add]

/-- A block's scores read nothing of the logits past the last column. -/
theorem tailScore_congr (c : BitVec 32) (b : Vec F S1x64x256 .i32) (l l' : Vec F S64x256 .f32)
    (h : ∀ y : S64x256.Idx, (BitVec.ofNat 32 (y 1).val + c).toNat < 1000000 → l y = l' y) : tailScore c b l = tailScore c b l' := by
  funext y
  by_cases hy : (BitVec.ofNat 32 (y 1).val + c).toNat < 1000000
  · unfold tailScore select addf
    show Scalar.select _ (FloatOps.addf (l y) _) _ = Scalar.select _ (FloatOps.addf (l' y) _) _
    rw [h y hy]
  · have hm : cmpi .ult (colsAt c) (broadcast S64x256 1000000#32) y = 0#1 := by
      show BitVec.ofBool (BitVec.ult (colsAt c y) 1000000#32) = 0#1
      rw [colsAt_apply, show BitVec.ult (BitVec.ofNat 32 (y 1).val + c) 1000000#32 = false from decide_eq_false hy]
      rfl
    unfold tailScore select
    rw [hm]; rfl

/-- The tail's fold reads nothing of the logits past the last column. -/
theorem tailFold_congr (n : ℕ) (hn : n < 35) (B : Vec F S1x64x8192 .i32) (L L' : Vec F S64x8192 .f32)
    (h : ∀ j : S64x8192.Idx, 720896 + 8192 * n + (j 1).val < 1000000 → L j = L' j) :
    ∀ (k : ℕ) (hk : k ≤ 32) (sv : FVec F S64x256 .f32) (si : IVec S64x256 32),
      tailFold (Scalar.addi 720896#32 (Scalar.muli 8192#32 (BitVec.ofNat 32 n))) B L k hk sv si
        = tailFold (Scalar.addi 720896#32 (Scalar.muli 8192#32 (BitVec.ofNat 32 n))) B L' k hk sv si
  | 0, _, _, _ => rfl
  | k + 1, hk, sv, si => by
    have key : tailScore (Scalar.addi (Scalar.addi 720896#32 (Scalar.muli 8192#32 (BitVec.ofNat 32 n))) (BitVec.ofNat 32 (256 * (31 - k))))
        (View.ld (Val := Elt F) (e' := .i32) B (Rect.unit (s := S1x64x8192) ![0, 0, 256 * (31 - k)] S1x64x256.size (inb_bits (31 - k) (by omega))))
        (View.ld (Val := Elt F) (e' := .f32) L (Rect.unit (s := S64x8192) ![0, 256 * (31 - k)] S64x256.size (inb_logits2 (31 - k) (by omega))))
        = tailScore (Scalar.addi (Scalar.addi 720896#32 (Scalar.muli 8192#32 (BitVec.ofNat 32 n))) (BitVec.ofNat 32 (256 * (31 - k))))
        (View.ld (Val := Elt F) (e' := .i32) B (Rect.unit (s := S1x64x8192) ![0, 0, 256 * (31 - k)] S1x64x256.size (inb_bits (31 - k) (by omega))))
        (View.ld (Val := Elt F) (e' := .f32) L' (Rect.unit (s := S64x8192) ![0, 256 * (31 - k)] S64x256.size (inb_logits2 (31 - k) (by omega)))) := by
      refine tailScore_congr _ _ _ _ ?_
      intro y hy
      have hy1 : (y 1).val < 256 := (y 1).isLt
      refine h _ ?_
      show 720896 + 8192 * n + (256 * (31 - k) + 1 * (y 1).val) < 1000000
      have e : (BitVec.ofNat 32 (y 1).val + Scalar.addi (Scalar.addi 720896#32 (Scalar.muli 8192#32 (BitVec.ofNat 32 n))) (BitVec.ofNat 32 (256 * (31 - k)))).toNat
          = 720896 + 8192 * n + (256 * (31 - k) + 1 * (y 1).val) := by
        unfold Scalar.addi Scalar.muli IntOp.addi IntOp.muli
        simp only [BitVec.toNat_add, BitVec.toNat_mul, BitVec.toNat_ofNat]
        omega
      omega
    unfold tailFold
    rw [key]
    exact tailFold_congr n hn B L L' h k _ _ _

/-- The running best of the main kernel after `n` points. -/
def mainAcc (X : Vec F S64x1000000 .f32) : ℕ → Best F
  | 0 => best0
  | n + 1 => mainPoint n (mainBlock X n) (mainAcc X n)

/-- The running best of the tail kernel after `n` points. -/
def tailAcc (V : Vec F S35x64x8192 .i32) (X : Vec F S64x1000000 .f32) : ℕ → Best F
  | 0 => best0
  | n + 1 => if h : n < 35 then tailPoint n (tailBits V ⟨n, h⟩) (tailBlock X n) (tailAcc V X n) else tailAcc V X n

/-- The tail body's point on what the fetches bring, whatever is past the array's end. -/
theorem tailPoint_fill (V : Vec F S35x64x8192 .i32) (X : Vec F S64x1000000 .f32) (t : Fin grid2.N) (d : win2_1.block.Idx → F .f32) :
    tailPoint t.val ((win2_0.blk t).view.read (Elt F) V) (win2_1.fill (grid2.coords t) d ((win2_1.blk t).view.read (Elt F) X))
        (tailAcc V X t.val) = tailAcc V X (t.val + 1) := by
  have ht : t.val < 35 := lt_of_lt_of_eq t.isLt N_2
  rw [tailAcc, dif_pos ht]
  unfold tailPoint
  rw [fill2_0, tailFold_congr t.val ht _ _ (tailBlock X t.val) fun j hj => fill2_1 X t d j hj]
  rfl

end Cert.Proof.KernelIdeal

end
-- ==== Proof.Setup.lean ====
/-
  The launch's set-up: the SparseCore configuration, the pipelines' definitions, the resource algebra with a component each
  for the handshakes, the two pipelines and the copies' counters.
-/
module

public import proofs.«01_k».proof.Proof.Blocks
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type}

/-- The labels of the program under the launch. -/
abbrev ΛP : Labels := Pipeline.Sig Λ₀ (Fin 2) fun p => (pcfgs (F := F) p).Adm
/-- The SparseCore call's configuration. -/
abbrev K : SparseCore.Cfg τ sig (ΛP (F := F)) 1 := sc (F := F)
/-- What the labels run, under the launch. -/
abbrev D [FloatOps F] : Defs nD τ sig (Elt F) (ΛP (F := F)) := Pipeline.defs pcfgs defs₀
/-- No variants of the program's own, lifted for the pipelines. -/
abbrev 𝒱 : Variants := 𝒱₀.lift
/-- The variant the threads start from. -/
abbrev v₀ : 𝒱.V := Sum.inl none

/-- The handshake's semaphores are four, none scoped; the tiles' buffers are their own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := UR sig nD τ
/-- All three components. -/
abbrev UU : Type := UH × (UP × Counters)

local notation "𝕄" => MT nD τ sig (HIx 1) (Elt F) ℕ UU ℕ

/-- Where the handshakes' rounds lie. -/
abbrev EH : Emb UH (MT nD τ sig (HIx 1) (Elt F) ℕ UU ℕ) := embL
/-- Where the pipelines' rounds lie. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
/-- The pipelines' rounds lie in the machine's ghost state. -/
instance EP_landsIn : (EP (F := F)).LandsIn (upEmb : UEmb _ (MT nD τ sig (HIx 1) (Elt F) ℕ UU ℕ)) := by unfold EP; infer_instance

/-- The pipelines' tables: none, so nothing to say of them. -/
abbrev adm : (p : Fin 2) → (pcfgs (F := F) p).Adm := fun p => (cfgs p).toPCfg_adm

/-- A proof data for the pipeline a region does not run: anything. -/
def junkDat {cfg : Cfg sig Λ₀} (c : Dev nD) [∀ e, Nonempty (Elt F e)] : Dat τ (Elt F) (HIx 1) ℕ UU ℕ cfg c where
  A _ := fun _ => Classical.arbitrary _
  after _ _ := fun _ => Classical.arbitrary _
  Φ _ := BI.emp
  q _ := fullShare
  owed _ := 0

/-- A buffer of the core, held at something. -/
abbrev any (c : Dev nD) (b : Ref sig .tc) : sProp 𝕄 := iprop(∃ f : Buf (Elt F) ((c : Thread nD τ).loc b), ((c : Thread nD τ).loc b) ↦{fullShare} f)

/-- A buffer held at something is its whole memref owned at something. -/
theorem any_owns (c : Dev nD) (b : Ref sig .tc) :
    (any c b : sProp 𝕄) ⊢ iprop(∃ X, owns (c : Thread nD τ) (Memref.whole b) fullShare X) := by
  iintro ⟨%f, H⟩
  simp only [owns_whole_eq]
  iexists _; iexists f
  isplitr; · ipureintro; rfl
  iexact H

/-- And back. -/
theorem owns_any (c : Dev nD) (b : Ref sig .tc) (X) :
    owns (c : Thread nD τ) (Memref.whole b) fullShare X ⊢ (any c b : sProp 𝕄) := by
  simp only [owns_whole_eq]
  iintro ⟨%f, -, H⟩
  iexists f; iexact H

end Cert.Proof.KernelIdeal

end
-- ==== Proof.Tile.lean ====
/-
  One tile's work: its two rows of the array of bits, chunk by chunk.
-/
module

public import proofs.«01_k».proof.Proof.BitsText
public import proofs.«01_k».proof.Proof.Setup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "oV" => (Memref.whole Cert.KernelIdeal.main_v0_scv : Memref Cert.KernelIdeal.sig Kind.scVector Space.hbm Cert.KernelIdeal.S35x64x8192 EltTy.i32)
local notation "sV" => (Memref.whole Cert.KernelIdeal.cc0_scratch0 : Memref Cert.KernelIdeal.sig Kind.scVector Space.vmem Cert.KernelIdeal.S8192 EltTy.i32)

/-- A chunk's bits from its first counter. -/
def chunkBits (base : BitVec 32) : S8192.Idx → BitVec 32 := fun l => bitsOf (BitVec.ofNat 32 (l 0).val + base)

/-- The inner loop's trips. -/
theorem trips_inner : k0_t2_loop.trips = 512 := by decide
/-- The outer loop's trips. -/
theorem trips_outer : k0_t1_loop.trips = 35 := by decide

/-- The induction variable at trip `t`. -/
theorem iv_ofNat (t : ℕ) : Scf.iv 0#32 1#32 t = BitVec.ofNat 32 t := by
  unfold Scf.iv; rw [BitVec.mul_one, BitVec.zero_add]

/-- What a trip of the inner loop stores at a lane. -/
theorem trip_lane (base : BitVec 32) (t : Fin k0_t2_loop.trips) (x : S16.Idx) :
    shapeCast S16 (cipher (addi (iota .scVector S16 32 [0] iota_S16_d0_w32_scVector) (broadcast S16 (Scalar.addi base (Scalar.muli 16#32 (Scf.iv 0#32 1#32 t)))))) shapeCasts_S16_S16 x
      = bitsOf (BitVec.ofNat 32 (16 * t.val + (x 0).val) + base) := by
  rw [shapeCast_self, cipher_apply]
  refine congrArg bitsOf ?_
  show BitVec.ofNat 32 (0 * 16 + (x 0).val) + (base + 16#32 * Scf.iv 0#32 1#32 t.val) = _
  rw [iv_ofNat, Nat.zero_mul, Nat.zero_add, BitVec.ofNat_add, BitVec.ofNat_mul, BitVec.add_comm base, ← BitVec.add_assoc,
    BitVec.add_comm (BitVec.ofNat 32 (x 0).val)]

section Body

variable (d : Dev nD) (L : grid0.Coords)

/-- The tile's SparseCore. -/
abbrev cV : Fin τ.nSC := (L 0).castLE hcore0
/-- The tile's subcore. -/
abbrev jV : Fin τ.nSub := (L 1).castLE hsub0
/-- The tile's thread. -/
abbrev thrV : Thread nD τ := V d (cV L) (jV L)

/-- One trip fills sixteen more lanes. -/
theorem wp_trip (base : BitVec 32) (t : Fin k0_t2_loop.trips) (X : S8192.Idx → BitVec 32)
    (hX : ∀ y, (y 0).val < 16 * t.val → X y = chunkBits base y) {Q : PUnit → sProp 𝕄} :
    iprop(owns (thrV d L) sV fullShare (X : S8192.Idx → Elt F .i32)
        ∗ (∀ X' : S8192.Idx → BitVec 32, ⌜∀ y, (y 0).val < 16 * (t.val + 1) → X' y = chunkBits base y⌝
            -∗ owns (thrV d L) sV fullShare (X' : S8192.Idx → Elt F .i32) -∗ Q ⟨⟩))
      ⊢ wp frame (wpE (defs₀ (F := F)) 𝒱₀ (thrV d L) none) Set.univ (bitsTrip L sV base t) Q := by
  unfold bitsTrip
  iintro ⟨H, HQ⟩
  iapply (wp_load_owned 𝒱₀ (thrV d L) none Set.univ)
  isplitl [H]; · iexact H
  iintro H
  iapply (wp_store_part 𝒱₀ (thrV d L) none Set.univ)
  isplitl [H]; · iexact H
  iintro H
  simp only [Prog.bind]
  sl_step
  iapply HQ $$ [] [H]
  · ipureintro
    intro y hy
    by_cases hr : y ∈ (Rect.unit (s := S8192) (k0_off1 t) S16.size (k0_off1_inb t)).set
    · obtain ⟨x, rfl⟩ := (Rect.unit (s := S8192) (k0_off1 t) S16.size (k0_off1_inb t)).exists_idx_of_mem hr
      refine ((Rect.unit (s := S8192) (k0_off1 t) S16.size (k0_off1_inb t)).overlay_emb X _ x).trans ((trip_lane base t x).trans ?_)
      refine congrArg bitsOf (congrArg (BitVec.ofNat 32 · + base) ?_)
      show _ = k0_off1 t 0 + 1 * (x 0).val
      rw [congrFun (k0_off1_eq t) 0, Nat.one_mul]; rfl
    · refine ((Rect.unit (s := S8192) (k0_off1 t) S16.size (k0_off1_inb t)).overlay_of_not_mem X _ hr).trans (hX y ?_)
      by_contra h
      refine hr (Rect.mem_set_unit.mpr fun a => ?_)
      have ha : a = 0 := Subsingleton.elim _ _
      subst ha
      rw [k0_off1_eq]
      show 16 * t.val ≤ (y 0).val ∧ (y 0).val < 16 * t.val + 16
      omega
  · iexact H

/-- The inner loop fills the buffer with the chunk's bits. -/
theorem wp_fill (base : BitVec 32) {α : Type} {kk : PUnit → TileProg F L α} {Q : α → sProp 𝕄} :
    iprop((∃ X, owns (thrV d L) sV fullShare X)
        ∗ (owns (thrV d L) sV fullShare (chunkBits base : S8192.Idx → Elt F .i32)
            -∗ wp frame (wpE (defs₀ (F := F)) 𝒱₀ (thrV d L) none) Set.univ (kk ⟨⟩) Q))
      ⊢ wp frame (wpE (defs₀ (F := F)) 𝒱₀ (thrV d L) none) Set.univ
          (Scf.Loop.for k0_t2_loop k0_t2_ok ⟨⟩ (fun t _ => bitsTrip L sV base t) >>= kk) Q := by
  iintro ⟨⟨%X, H⟩, HQ⟩
  iapply (Scf.wp_for_bind (M := 𝕄) (frame) (wpE (defs₀ (F := F)) 𝒱₀ (thrV d L) none) Set.univ
    k0_t2_loop.lb k0_t2_loop.ub k0_t2_loop.st k0_t2_ok ⟨⟩ (fun t _ => bitsTrip (F := F) L sV base t)
    (fun n _ => iprop(∃ X : S8192.Idx → BitVec 32, ⌜∀ y, (y 0).val < 16 * n → X y = chunkBits base y⌝
      ∗ owns (thrV d L) sV fullShare (X : S8192.Idx → Elt F .i32))) ?_) $$ [H]
  · intro t _
    iintro ⟨%X, %hX, H⟩
    iapply (wp_trip d L base t X hX)
    isplitl [H]; · iexact H
    iintro %X' %hX' H
    iexists X'
    isplitr
    · ipureintro; exact hX'
    · iexact H
  · iexists X
    isplitr
    · ipureintro; intro y hy; omega
    · iexact H
  iintro %_ ⟨%X, %hX, H⟩
  have e : X = chunkBits base := funext fun y => hX y (by
    have h := (y 0).isLt
    rw [show Scf.trips k0_t2_loop.lb k0_t2_loop.ub k0_t2_loop.st = 512 from trips_inner]
    exact h)
  subst e
  iapply HQ
  iexact H

variable (sem : DmaSem sig) (off : Fin k0_t1_loop.trips → Fin 3 → ℕ) (inb : ∀ t a, off t a + S1x1x8192.size a ≤ S35x64x8192.size a)
  (base : BitVec 32)

/-- The first counter of chunk `t` of the row starting at `base`. -/
abbrev chunkBase (t : Fin k0_t1_loop.trips) : BitVec 32 := base + 8192#32 * BitVec.ofNat 32 t.val

/-- A chunk of the row, held at its bits, -/
def chunkDone (t : Fin k0_t1_loop.trips) : sProp 𝕄 :=
  owns (thrV d L) (pieceAt oV (off t) (inb t)) fullShare (chunkBits (chunkBase base t) : S8192.Idx → Elt F .i32)
/-- and held at anything. -/
def chunkAny (t : Fin k0_t1_loop.trips) : sProp 𝕄 := iprop(∃ Y, owns (thrV d L) (pieceAt oV (off t) (inb t)) fullShare Y)

/-- Before trip `n` of a row's loop: the chunks below `n` are at their bits. -/
def rowInv (O : CellTallies nD τ sig (HIx 1)) (W : Waits sig (HIx 1)) (n : ℕ) (_ : PUnit) : sProp 𝕄 :=
  iprop(Transfers.MayWaits (thrV d L) (default : HIx 1) O
    ∗ (∃ X, owns (thrV d L) sV fullShare X)
    ∗ semVal (thrV d L, SemLoc.dma sem) 0
    ∗ (bigSep Finset.univ fun t : Fin k0_t1_loop.trips => if t.val < n then chunkDone d L off inb base t else chunkAny d L off inb t)
    ∗ ∃ W', ⌜∀ p ∈ W', p ∈ W ∨ p.2 = none⌝ ∗ owes (thrV d L) O W')

/-- A copy of the buffer into a chunk, and its wait. -/
theorem wp_copy (O : CellTallies nD τ sig (HIx 1)) (W : Waits sig (HIx 1)) (o : Fin 3 → ℕ)
    (ho : ∀ a, o a + S1x1x8192.size a ≤ S35x64x8192.size a) (X : S8192.Idx → Elt F .i32) {Q : PUnit → sProp 𝕄} :
    iprop(Transfers.MayWaits (thrV d L) (default : HIx 1) O ∗ owns (thrV d L) sV fullShare X
        ∗ semVal (thrV d L, SemLoc.dma sem) 0 ∗ (∃ Y, owns (thrV d L) (pieceAt oV o ho) fullShare Y) ∗ owes (thrV d L) O W
        ∗ (owns (thrV d L) sV fullShare X -∗ semVal (thrV d L, SemLoc.dma sem) 0 -∗ owns (thrV d L) (pieceAt oV o ho) fullShare X
          -∗ owes (thrV d L) O (insert (SemLoc.dma sem, (default : HIx 1)) W) -∗ Q ⟨⟩))
      ⊢ wp frame (wpE (defs₀ (F := F)) 𝒱₀ (thrV d L) none) Set.univ
          (do
            Prog.lift (.enqueueDma sV (.here (pieceAt oV o ho)) (.dma sem) (Memref.isWhole_whole _).wordExact ((View.wordExact_bits rfl).reshape _ _) ⟨Or.inl rfl, trivial⟩)
            Prog.lift (.waitDma2 sem sV (pieceAt oV o ho) (Memref.isWhole_whole _).wordExact ((View.wordExact_bits rfl).reshape _ _))
            pure ⟨⟩ : TileProg F L PUnit) Q := by
  unfold owns
  iintro ⟨Hmw, ⟨%f, %hf, Hs⟩, Hsem, ⟨%Y, %g, %hg, Ht⟩, HO, HQ⟩
  sl_exec (disch := exact View.amount_pos _ _ (show 0 < S8192.numel by decide))
  sl_step
  iapply HQ $$ [Hs] Hsem [Ht] HO
  · iexists f
    isplitr
    · ipureintro; exact hf
    · iexact Hs
  · iexists _
    isplitr
    swap; · iexact Ht
    ipureintro
    subst hf
    funext x
    have h := View.read_writes_cons_emb (pieceAt oV o ho).view g (Rect.whole S8192) (wp_copy.sl.dma0 d L f) [] x
    have hx : (Rect.whole S8192).emb x = x := by
      funext a; apply Fin.ext
      show 0 + 1 * (x a).val = (x a).val
      omega
    rw [hx] at h
    exact h

/-- One trip of a row's loop: its chunk is filled and copied out. -/
theorem row_step (O : CellTallies nD τ sig (HIx 1)) (W : Waits sig (HIx 1)) (t : Fin k0_t1_loop.trips) :
    rowInv (F := F) d L sem off inb base O W t.val ⟨⟩
      ⊢ wp frame (wpE (defs₀ (F := F)) 𝒱₀ (thrV d L) none) Set.univ
          (do
            Scf.Loop.for k0_t2_loop k0_t2_ok ⟨⟩ fun t2 _ => bitsTrip L sV (Scalar.addi base (Scalar.muli 8192#32 (Scf.iv 0#32 1#32 t))) t2
            Prog.lift (.enqueueDma sV (.here (pieceAt oV (off t) (inb t))) (.dma sem) (Memref.isWhole_whole _).wordExact ((View.wordExact_bits rfl).reshape _ _) ⟨Or.inl rfl, trivial⟩)
            Prog.lift (.waitDma2 sem sV (pieceAt oV (off t) (inb t)) (Memref.isWhole_whole _).wordExact ((View.wordExact_bits rfl).reshape _ _))
            pure ⟨⟩ : TileProg F L PUnit)
          (rowInv (F := F) d L sem off inb base O W (t.val + 1)) := by
  have e : Scalar.addi base (Scalar.muli 8192#32 (Scf.iv 0#32 1#32 t.val)) = chunkBase base t := by
    rw [iv_ofNat]; rfl
  have hrest : (bigSep (Finset.univ.erase t) fun u : Fin k0_t1_loop.trips =>
        if u.val < t.val then chunkDone (F := F) d L off inb base u else chunkAny d L off inb u)
      = bigSep (Finset.univ.erase t) fun u : Fin k0_t1_loop.trips =>
        if u.val < t.val + 1 then chunkDone (F := F) d L off inb base u else chunkAny d L off inb u :=
    bigSep_congr fun u hu => if_congr (by
      have : u.val ≠ t.val := fun h => Finset.ne_of_mem_erase hu (Fin.ext h)
      omega) rfl rfl
  unfold rowInv
  rw [SparseCore.bigSep_erase' (Finset.mem_univ t), SparseCore.bigSep_erase' (Finset.mem_univ t), hrest,
    if_neg (lt_irrefl _), if_pos (Nat.lt_succ_self _), e]
  unfold chunkAny chunkDone
  iintro ⟨#Hmw, Hs, Hsem, ⟨Ht, Hrest⟩, %W', %hW', HO⟩
  iapply (wp_fill d L _)
  isplitl [Hs]; · iexact Hs
  iintro Hs
  iapply (wp_copy d L sem O W' (off t) (inb t) _)
  isplitr; · iexact Hmw
  isplitl [Hs]; · iexact Hs
  isplitl [Hsem]; · iexact Hsem
  isplitl [Ht]; · iexact Ht
  isplitl [HO]; · iexact HO
  iintro Hs Hsem Ht HO
  isplitr; · iexact Hmw
  isplitl [Hs]; · iexists _; iexact Hs
  isplitl [Hsem]; · iexact Hsem
  isplitl [Ht Hrest]
  · isplitl [Ht]; · iexact Ht
    iexact Hrest
  iexists (insert (SemLoc.dma sem, (default : HIx 1)) W')
  isplitr
  · ipureintro; intro p hp
    rcases Finset.mem_insert.mp hp with hp | hp
    · exact .inr (hp ▸ rfl)
    · exact hW' p hp
  · iexact HO

/-- A row's loop: its chunks at anything become its chunks at their bits. -/
theorem wp_row (O : CellTallies nD τ sig (HIx 1)) (W : Waits sig (HIx 1)) {α : Type} {kk : PUnit → TileProg F L α} {Q : α → sProp 𝕄} :
    iprop(Transfers.MayWaits (thrV d L) (default : HIx 1) O ∗ (∃ X, owns (thrV d L) sV fullShare X)
        ∗ semVal (thrV d L, SemLoc.dma sem) 0 ∗ (bigSep Finset.univ fun t => chunkAny (F := F) d L off inb t) ∗ owes (thrV d L) O W
        ∗ ((∃ X, owns (thrV d L) sV fullShare X) -∗ semVal (thrV d L, SemLoc.dma sem) 0
          -∗ (bigSep Finset.univ fun t => chunkDone (F := F) d L off inb base t)
          -∗ (∃ W', ⌜∀ p ∈ W', p ∈ W ∨ p.2 = none⌝ ∗ owes (thrV d L) O W')
          -∗ wp frame (wpE (defs₀ (F := F)) 𝒱₀ (thrV d L) none) Set.univ (kk ⟨⟩) Q))
      ⊢ wp frame (wpE (defs₀ (F := F)) 𝒱₀ (thrV d L) none) Set.univ
          (rowLoop L oV sV (Memref.isWhole_whole _) sem off inb base >>= kk) Q := by
  have h0 : (bigSep Finset.univ fun t : Fin k0_t1_loop.trips => chunkAny (F := F) d L off inb t)
      = bigSep Finset.univ fun t : Fin k0_t1_loop.trips => if t.val < 0 then chunkDone (F := F) d L off inb base t else chunkAny d L off inb t :=
    bigSep_congr fun t _ => (if_neg (Nat.not_lt_zero _)).symm
  have h1 : (bigSep Finset.univ fun t : Fin k0_t1_loop.trips =>
        if t.val < Scf.trips k0_t1_loop.lb k0_t1_loop.ub k0_t1_loop.st then chunkDone (F := F) d L off inb base t else chunkAny d L off inb t)
      = bigSep Finset.univ fun t : Fin k0_t1_loop.trips => chunkDone (F := F) d L off inb base t :=
    bigSep_congr fun t _ => if_pos t.isLt
  rw [h0]
  unfold rowLoop
  iintro ⟨Hmw, Hs, Hsem, Ht, HO, HQ⟩
  iapply (Scf.wp_for_bind (M := 𝕄) (frame) (wpE (defs₀ (F := F)) 𝒱₀ (thrV d L) none) Set.univ
    k0_t1_loop.lb k0_t1_loop.ub k0_t1_loop.st k0_t1_ok ⟨⟩ _ (rowInv (F := F) d L sem off inb base O W)
    (fun t _ => row_step d L sem off inb base O W t)) $$ [Hmw Hs Hsem Ht HO]
  · unfold rowInv
    isplitl [Hmw]; · iexact Hmw
    isplitl [Hs]; · iexact Hs
    isplitl [Hsem]; · iexact Hsem
    isplitl [Ht]; · iexact Ht
    iexists W
    isplitr
    · ipureintro; exact fun p hp => .inl hp
    · iexact HO
  unfold rowInv
  rw [h1]
  iintro %_ ⟨-, Hs, Hsem, Ht, HO⟩
  iapply HQ $$ Hs Hsem Ht HO

end Body

end Cert.Proof.KernelIdeal

end
-- ==== Proof.TileObl.lean ====
/-
  What the SparseCore call is handed and hands back: each SparseCore its half of the array of bits, each tile its two rows,
  each chunk of a row a piece; and every tile's obligation.
-/
module

public import proofs.«01_k».proof.Proof.Tile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "oV" => (Memref.whole Cert.KernelIdeal.main_v0_scv : Memref Cert.KernelIdeal.sig Kind.scVector Space.hbm Cert.KernelIdeal.S35x64x8192 EltTy.i32)
local notation "sV" => (Memref.whole Cert.KernelIdeal.cc0_scratch0 : Memref Cert.KernelIdeal.sig Kind.scVector Space.vmem Cert.KernelIdeal.S8192 EltTy.i32)

/-- The array the SparseCores write: the bits of the counters of the last 35 chunks of every row. -/
def bitsArr : S35x64x8192.Idx → BitVec 32 :=
  fun j => bitsOf (BitVec.ofNat 32 (j 2).val + (BitVec.ofNat 32 ((j 1).val * 1000000 + 720896) + 8192#32 * BitVec.ofNat 32 (j 0).val))

/-- The array's buffer on device `d`. -/
abbrev oLoc (d : Dev nD) : Loc nD τ sig := (SparseCore.T d).loc main_v0
/-- The array's values there. -/
abbrev bitsBuf (d : Dev nD) : Buf (Elt F) (oLoc d) := bitsArr

/-- One row of the array, -/
def rowSet (r : ℕ) : Finset S35x64x8192.Idx := Finset.univ.filter fun j => (j 1).val = r
/-- one tile's two rows, -/
def tileSet (c s : ℕ) : Finset S35x64x8192.Idx := Finset.univ.filter fun j => (j 1).val / 2 = 2 * s + c
/-- one SparseCore's rows, -/
def coreSet (c : ℕ) : Finset S35x64x8192.Idx := Finset.univ.filter fun j => (j 1).val / 2 % 2 = c
/-- and one chunk of a row. -/
def chunkSet (r t : ℕ) : Finset S35x64x8192.Idx := Finset.univ.filter fun j => (j 1).val = r ∧ (j 0).val = t

/-- A set of the array split over a family of sets its elements determine. -/
theorem pts_split {n : ℕ} (d : Dev nD) (f : Buf (Elt F) (oLoc d)) (A : Finset S35x64x8192.Idx) (B : Fin n → Finset S35x64x8192.Idx)
    (g : S35x64x8192.Idx → ℕ) (hg : ∀ t j, j ∈ B t ↔ j ∈ A ∧ g j = t.val) (hA : ∀ j ∈ A, g j < n) :
    (oLoc d ↦[(A : Finset (Idx (oLoc d)))]{fullShare} f : sProp 𝕄)
      = bigSep Finset.univ fun t : Fin n => oLoc d ↦[(B t : Finset (Idx (oLoc d)))]{fullShare} f := by
  have hU : A = Finset.univ.biUnion B := by
    ext j
    simp only [Finset.mem_biUnion, Finset.mem_univ, _root_.true_and, hg]
    exact ⟨fun h => ⟨⟨g j, hA j h⟩, h, rfl⟩, fun ⟨_, h, _⟩ => h⟩
  have hd : ∀ t ∈ (Finset.univ : Finset (Fin n)), ∀ t' ∈ (Finset.univ : Finset (Fin n)), t ≠ t' → Disjoint (B t) (B t') :=
    fun t _ t' _ h => Finset.disjoint_left.mpr fun j h1 h2 => h (Fin.ext (((hg t j).mp h1).2.symm.trans ((hg t' j).mp h2).2))
  exact (congrArg (fun I : Finset (Idx (oLoc d)) => (oLoc d ↦[I]{fullShare} f : sProp 𝕄)) hU).trans
    (pointsTo_biUnion (ℓ := oLoc d) (q := fullShare) (f := f) Finset.univ B hd)

/-- The array is its SparseCores' halves. -/
theorem whole_cores (d : Dev nD) (f : Buf (Elt F) (oLoc d)) :
    (oLoc d ↦{fullShare} f : sProp 𝕄) = bigSep Finset.univ fun c : Fin 2 => oLoc d ↦[(coreSet c.val : Finset (Idx (oLoc d)))]{fullShare} f :=
  pts_split d f Finset.univ (fun c => coreSet c.val) (fun j => (j 1).val / 2 % 2)
    (fun t j => by simp [coreSet]) (fun j _ => Nat.mod_lt _ (by decide))

/-- A SparseCore's half is its tiles' rows. -/
theorem core_tiles (d : Dev nD) (f : Buf (Elt F) (oLoc d)) (c : ℕ) (hc : c < 2) :
    (oLoc d ↦[(coreSet c : Finset (Idx (oLoc d)))]{fullShare} f : sProp 𝕄)
      = bigSep Finset.univ fun s : Fin 16 => oLoc d ↦[(tileSet c s.val : Finset (Idx (oLoc d)))]{fullShare} f :=
  pts_split d f (coreSet c) (fun s => tileSet c s.val) (fun j => (j 1).val / 4)
    (fun t j => by simp only [coreSet, tileSet, Finset.mem_filter, Finset.mem_univ, _root_.true_and]; omega)
    (fun j _ => by have h : (j 1).val < 64 := (j 1).isLt; show (j 1).val / 4 < 16; omega)

/-- A tile's rows are two, -/
theorem tile_rows (d : Dev nD) (f : Buf (Elt F) (oLoc d)) (c s : ℕ) :
    (oLoc d ↦[(tileSet c s : Finset (Idx (oLoc d)))]{fullShare} f : sProp 𝕄)
      = bigSep Finset.univ fun r : Fin 2 => oLoc d ↦[(rowSet (4 * s + 2 * c + r.val) : Finset (Idx (oLoc d)))]{fullShare} f :=
  pts_split d f (tileSet c s) (fun r => rowSet (4 * s + 2 * c + r.val)) (fun j => (j 1).val % 2)
    (fun t j => by have := t.isLt; simp only [rowSet, tileSet, Finset.mem_filter, Finset.mem_univ, _root_.true_and]; omega)
    (fun j _ => Nat.mod_lt _ (by decide))

/-- and a row is its chunks. -/
theorem row_chunks (d : Dev nD) (f : Buf (Elt F) (oLoc d)) (r : ℕ) :
    (oLoc d ↦[(rowSet r : Finset (Idx (oLoc d)))]{fullShare} f : sProp 𝕄)
      = bigSep Finset.univ fun t : Fin k0_t1_loop.trips => oLoc d ↦[(chunkSet r t.val : Finset (Idx (oLoc d)))]{fullShare} f :=
  pts_split d f (rowSet r) (fun t => chunkSet r t.val) (fun j => (j 0).val)
    (fun t j => by simp only [rowSet, chunkSet, Finset.mem_filter, Finset.mem_univ, _root_.true_and])
    (fun j _ => by rw [trips_outer]; exact (j 0).isLt)

/-- A vector cast from a chunk's shape, at a lane. -/
theorem cast_chunk (v : S1x1x8192.Idx → BitVec 32) (h : S1x1x8192.ShapeCasts S8192) (y : S8192.Idx) :
    shapeCast S8192 v h y = v (Fin.cons ⟨0, Nat.one_pos⟩ (Fin.cons ⟨0, Nat.one_pos⟩ y)) := by
  unfold shapeCast
  congr 1
  apply Shape.reshapeEquiv_eq_of_rowMajor
  show (Shape.rowMajorPi (Matrix.vecCons 1 (Matrix.vecCons 1 ![8192])) (Fin.cons ⟨0, Nat.one_pos⟩ (Fin.cons ⟨0, Nat.one_pos⟩ y))).val = (Shape.rowMajorPi ![8192] y).val
  rw [Shape.rowMajorPi_succ_val]
  show 0 * _ + (Shape.rowMajorPi (Matrix.vecCons 1 ![8192]) (Fin.cons ⟨0, Nat.one_pos⟩ y)).val = _
  rw [Shape.rowMajorPi_succ_val]
  show 0 * _ + (0 * _ + (Shape.rowMajorPi ![8192] y).val) = _
  rw [Nat.zero_mul, Nat.zero_mul, Nat.zero_add, Nat.zero_add]

section Piece

variable (d : Dev nD) (L : grid0.Coords) (off : Fin k0_t1_loop.trips → Fin 3 → ℕ)
  (inb : ∀ t a, off t a + S1x1x8192.size a ≤ S35x64x8192.size a) (r : ℕ) (hoff : ∀ t, off t = ![t.val, r, 0])

include hoff

/-- A piece's elements are the chunk's. -/
theorem piece_set (t : Fin k0_t1_loop.trips) : (pieceAt oV (off t) (inb t)).view.set = chunkSet r t.val := by
  show ((View.slice (View.whole (main_v0_scv : Ref sig .scVector)) (Rect.unit (s := S35x64x8192) (off t) S1x1x8192.size (inb t))).reshape S8192 squeezes_S1x1x8192_S8192.numel_eq).set = _
  rw [View.set_reshape, View.set_slice]
  refine Finset.map_refl.trans ?_
  ext j
  rw [Rect.mem_set_unit]
  simp only [chunkSet, Finset.mem_filter, Finset.mem_univ, _root_.true_and]
  have h2 : (j 2).val < 8192 := (j 2).isLt
  constructor
  · intro h
    have h0 := h 0; have h1 := h 1
    rw [hoff t] at h0 h1
    have h0' : t.val ≤ (j 0).val ∧ (j 0).val < t.val + 1 := h0
    have h1' : r ≤ (j 1).val ∧ (j 1).val < r + 1 := h1
    omega
  · rintro ⟨h1, h0⟩ a
    rw [hoff t]
    fin_cases a
    · show t.val ≤ (j 0).val ∧ (j 0).val < t.val + 1; omega
    · show r ≤ (j 1).val ∧ (j 1).val < r + 1; omega
    · show 0 ≤ (j 2).val ∧ (j 2).val < 0 + 8192; omega

/-- The piece read of the array of bits is the chunk's bits. -/
theorem piece_read (t : Fin k0_t1_loop.trips) (base : BitVec 32) (hb : base = BitVec.ofNat 32 (r * 1000000 + 720896)) :
    (pieceAt oV (off t) (inb t)).view.read (Elt F) (bitsBuf (F := F) d) = (chunkBits (chunkBase base t) : S8192.Idx → Elt F .i32) := by
  subst hb
  funext y
  rw [Memref.read_squeeze_slice oV (Rect.unit (s := S35x64x8192) (off t) S1x1x8192.size (inb t)) (fun _ => rfl) squeezes_S1x1x8192_S8192
    squeezes_S1x1x8192_S8192.numel_eq]
  refine (cast_chunk _ _ y).trans ?_
  refine congrArg bitsOf ?_
  show BitVec.ofNat 32 (off t 2 + 1 * (y 0).val) + (BitVec.ofNat 32 ((off t 1 + 1 * 0) * 1000000 + 720896) + 8192#32 * BitVec.ofNat 32 (off t 0 + 1 * 0)) = _
  rw [hoff t]
  show BitVec.ofNat 32 (0 + 1 * (y 0).val) + (BitVec.ofNat 32 ((r + 1 * 0) * 1000000 + 720896) + 8192#32 * BitVec.ofNat 32 (t.val + 1 * 0)) = _
  simp only [Nat.zero_add, Nat.one_mul, Nat.mul_zero, Nat.add_zero]

/-- A chunk's elements at any contents are the piece, at something, -/
theorem chunk_any [FloatOps F] (t : Fin k0_t1_loop.trips) (f : Buf (Elt F) (oLoc d)) :
    (oLoc d ↦[(chunkSet r t.val : Finset (Idx (oLoc d)))]{fullShare} f : sProp 𝕄) ⊢ chunkAny d L off inb t := by
  unfold chunkAny owns
  rw [piece_set off inb r hoff t]
  iintro H
  iexists _
  iexists f
  isplitr
  · ipureintro; rfl
  · iexact H

/-- and the piece at its bits is the chunk's elements at the array of bits. -/
theorem chunk_done [FloatOps F] (t : Fin k0_t1_loop.trips) (base : BitVec 32) (hb : base = BitVec.ofNat 32 (r * 1000000 + 720896)) :
    (chunkDone d L off inb base t : sProp 𝕄) ⊢ (oLoc d ↦[(chunkSet r t.val : Finset (Idx (oLoc d)))]{fullShare} bitsBuf d) := by
  unfold chunkDone owns
  iintro ⟨%f, %hf, H⟩
  have e : ∀ j ∈ (pieceAt oV (off t) (inb t)).view.set, f j = bitsBuf (F := F) d j := by
    intro j hj
    obtain ⟨x, -, rfl⟩ := Finset.mem_map.mp hj
    exact congrFun (hf.trans (piece_read d off inb r hoff t base hb).symm) x
  have h1 : (View.loc (thrV d L) (pieceAt oV (off t) (inb t)).view ↦[(pieceAt oV (off t) (inb t)).view.set]{fullShare} f : sProp 𝕄)
      = (oLoc d ↦[(chunkSet r t.val : Finset (Idx (oLoc d)))]{fullShare} bitsBuf d) :=
    (pointsTo_congr e).trans (by rw [piece_set off inb r hoff t])
  rw [← h1]
  iexact H

end Piece

section Rows

variable [FloatOps F] (d : Dev nD) (L : grid0.Coords) (off : Fin k0_t1_loop.trips → Fin 3 → ℕ)
  (inb : ∀ t a, off t a + S1x1x8192.size a ≤ S35x64x8192.size a) (r : ℕ) (hoff : ∀ t, off t = ![t.val, r, 0])

include hoff

/-- A row at any contents is its pieces, -/
theorem row_any (f : Buf (Elt F) (oLoc d)) :
    (oLoc d ↦[(rowSet r : Finset (Idx (oLoc d)))]{fullShare} f : sProp 𝕄) ⊢ bigSep Finset.univ fun t => chunkAny d L off inb t := by
  rw [row_chunks]
  exact bigSep_mono fun t _ => chunk_any d L off inb r hoff t f

/-- and its pieces at their bits are the row at the array of bits. -/
theorem row_done (base : BitVec 32) (hb : base = BitVec.ofNat 32 (r * 1000000 + 720896)) :
    (bigSep Finset.univ fun t => chunkDone (F := F) d L off inb base t)
      ⊢ (oLoc d ↦[(rowSet r : Finset (Idx (oLoc d)))]{fullShare} bitsBuf d : sProp 𝕄) := by
  rw [row_chunks]
  exact bigSep_mono fun t _ => chunk_done d L off inb r hoff t base hb

end Rows

variable [FloatOps F]

/-- The first counter of a tile's row. -/
theorem rowStart_eq (L : grid0.Coords) (r : ℕ) :
    rowStart L (BitVec.ofNat 32 r) = BitVec.ofNat 32 ((4 * (L 1).val + 2 * (L 0).val + r) * 1000000 + 720896) := by
  rw [show 4 * (L 1).val + 2 * (L 0).val + r = ((L 1).val * 2 + (L 0).val) * 2 + r by omega]
  simp only [BitVec.ofNat_add, BitVec.ofNat_mul]
  rfl

section Body

variable (d : Dev nD) (L : grid0.Coords)

/-- The tile's first copy semaphore. -/
abbrev cell0 : GSem nD τ sig := (thrV d L, .dma cc0_scoped0.sem)
/-- The tile's second copy semaphore. -/
abbrev cell1 : GSem nD τ sig := (thrV d L, .dma cc0_scoped1.sem)

/-- The tile's own semaphores are the two and the rest. -/
theorem ownSems0_V :
    (ownSems0 (thrV d L) : sProp 𝕄)
      = iprop(semVal (cell0 d L) 0 ∗ semVal (cell1 d L) 0
          ∗ bigSep (((ownCells (thrV d L)).erase (cell0 d L)).erase (cell1 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩)]

/-- The tile's own buffers are the one it fills and the rest. -/
theorem ownBufs_V :
    (ownBufs (thrV d L) : sProp 𝕄)
      = iprop((∃ f, (thrV d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The tile's buffer at any contents is its memref owned at something, and back. -/
theorem scratch_any :
    iprop(∃ f, (thrV d L).loc cc0_scratch0 ↦{fullShare} f) = (iprop(∃ X, owns (thrV d L) sV fullShare X) : sProp 𝕄) := by
  have h : (sV).view.set = Finset.univ := View.set_whole _
  unfold owns
  rw [h]
  have h1 : iprop(∃ f, (thrV d L).loc cc0_scratch0 ↦{fullShare} f) ⊢ (iprop(∃ X f, ⌜(sV).view.read (Elt F) f = X⌝
      ∗ (sV).view.loc (thrV d L) ↦{fullShare} f) : sProp 𝕄) := by
    iintro ⟨%f, H⟩
    iexists _; iexists f
    isplitr
    · ipureintro; rfl
    · iexact H
  have h2 : (iprop(∃ X f, ⌜(sV).view.read (Elt F) f = X⌝ ∗ (sV).view.loc (thrV d L) ↦{fullShare} f) : sProp 𝕄)
      ⊢ iprop(∃ f, (thrV d L).loc cc0_scratch0 ↦{fullShare} f) := by
    iintro ⟨%X, %f, -, H⟩
    iexists f
    iexact H
  exact BI.Entails.antisymm h1 h2

/-- The tile fills its two rows of the array with their bits. -/
theorem tile_body (hF : (K (F := F)).Facts) (f : Buf (Elt F) (oLoc d)) (O : CellTallies nD τ sig (HIx 1)) (W : Waits sig (HIx 1))
    (hO : ∀ g, O g none = 0) :
    (iprop(levAts (K (F := F)).L (K (F := F)).lev ∗ emp
        ∗ (oLoc d ↦[(tileSet (L 0).val (L 1).val : Finset (Idx (oLoc d)))]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc0__sc_bits L oV (Memref.isWhole_whole _) sV (Memref.isWhole_whole _) cc0_scoped0 cc0_scoped1)
          fun _ => iprop((oLoc d ↦[(tileSet (L 0).val (L 1).val : Finset (Idx (oLoc d)))]{fullShare} bitsBuf d)
            ∗ scopedBufs (thrV d L) ∗ scopedSems0 (thrV d L)
            ∗ ∃ W', ⌜∀ p ∈ W', p ∈ W ∨ p.2 = none⌝ ∗ owes (thrV d L) O W') := by
  have ho0 : ∀ t, k0_off2 L t = ![t.val, 4 * (L 1).val + 2 * (L 0).val + 0, 0] := fun t => k0_off2_eq L t
  have ho1 : ∀ t, k0_off4 L t = ![t.val, 4 * (L 1).val + 2 * (L 0).val + 1, 0] := fun t => k0_off4_eq L t
  have hrows : ∀ g : Buf (Elt F) (oLoc d), (oLoc d ↦[(tileSet (L 0).val (L 1).val : Finset (Idx (oLoc d)))]{fullShare} g : sProp 𝕄)
      = iprop((oLoc d ↦[(rowSet (4 * (L 1).val + 2 * (L 0).val + 0) : Finset (Idx (oLoc d)))]{fullShare} g)
        ∗ oLoc d ↦[(rowSet (4 * (L 1).val + 2 * (L 0).val + 1) : Finset (Idx (oLoc d)))]{fullShare} g) :=
    fun g => (tile_rows d g _ _).trans (bigSep_univ_two (M := 𝕄) _)
  rw [bits_text, hrows, hrows]
  rw [(K (F := F)).scopedBufs_V hF d (cV L) (jV L), SparseCore.Cfg.scopedSems0_V (Val := Elt F) d (cV L) (jV L), ownSems0_V, ownBufs_V, scratch_any]
  iintro ⟨#Hlv, -, ⟨Hr0, Hr1⟩, ⟨Hs, Hbufs⟩, ⟨Hsem0, Hsem1, Hsems⟩, HO⟩
  ihave #Hmw := (show levAts (K (F := F)).L (K (F := F)).lev ⊢ Transfers.MayWaits (thrV d L) (default : HIx 1) O from
    (K (F := F)).mayWaits_none (thr := thrV d L) hO) $$ Hlv
  ihave Hr0 := (row_any d L (k0_off2 L) (k0_off2_inb L) _ ho0 f) $$ Hr0
  ihave Hr1 := (row_any d L (k0_off4 L) (k0_off4_inb L) _ ho1 f) $$ Hr1
  iapply (wp_row d L cc0_scoped0.sem (k0_off2 L) (k0_off2_inb L) (rowStart L 0#32) O W)
  isplitr; · iexact Hmw
  isplitl [Hs]; · iexact Hs
  isplitl [Hsem0]; · iexact Hsem0
  isplitl [Hr0]; · iexact Hr0
  isplitl [HO]; · iexact HO
  iintro Hs Hsem0 Hr0 ⟨%W1, %hW1, HO⟩
  iapply (wp_row d L cc0_scoped1.sem (k0_off4 L) (k0_off4_inb L) (rowStart L 1#32) O W1)
  isplitr; · iexact Hmw
  isplitl [Hs]; · iexact Hs
  isplitl [Hsem1]; · iexact Hsem1
  isplitl [Hr1]; · iexact Hr1
  isplitl [HO]; · iexact HO
  iintro Hs Hsem1 Hr1 ⟨%W2, %hW2, HO⟩
  ihave Hr0 := (row_done d L (k0_off2 L) (k0_off2_inb L) _ ho0 _ (rowStart_eq L 0)) $$ Hr0
  ihave Hr1 := (row_done d L (k0_off4 L) (k0_off4_inb L) _ ho1 _ (rowStart_eq L 1)) $$ Hr1
  simp only [wp_pure]
  imodintro
  isplitl [Hr0 Hr1]
  · isplitl [Hr0]; · iexact Hr0
    iexact Hr1
  isplitl [Hs Hbufs]
  · isplitl [Hs]; · iexact Hs
    iexact Hbufs
  isplitl [Hsem0 Hsem1 Hsems]
  · isplitl [Hsem0]; · iexact Hsem0
    isplitl [Hsem1]; · iexact Hsem1
    iexact Hsems
  iexists W2
  isplitr
  · ipureintro; intro p hp
    rcases hW2 p hp with h | h
    · exact hW1 p h
    · exact .inr h
  · iexact HO

end Body

end Cert.Proof.KernelIdeal

end
-- ==== Proof.Launch.lean ====
/-
  The SparseCore call's payloads, the tiles' obligation, the split of a SparseCore's half among its tiles, and the launch's
  ghost state.
-/
module

public import proofs.«01_k».proof.Proof.TileObl

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "oV" => (Memref.whole Cert.KernelIdeal.main_v0_scv : Memref Cert.KernelIdeal.sig Kind.scVector Space.hbm Cert.KernelIdeal.S35x64x8192 EltTy.i32)
local notation "sV" => (Memref.whole Cert.KernelIdeal.cc0_scratch0 : Memref Cert.KernelIdeal.sig Kind.scVector Space.vmem Cert.KernelIdeal.S8192 EltTy.i32)

/-- A part of the array of bits' buffer. -/
abbrev oPart (d : Dev nD) (I : Finset S35x64x8192.Idx) (f : Buf (Elt F) (oLoc d)) : sProp 𝕄 :=
  oLoc d ↦[(I : Finset (Idx (oLoc d)))]{fullShare} f

variable (m : (ℓ : Loc nD τ sig) → Buf (Elt F) ℓ) (ρ : Dev nD → PrngReg)

/-- A SparseCore is handed its half of the buffer and hands it back at the bits; a tile likewise its rows. -/
def P : (K (F := F)).Pay (nD := nD) (Val := Elt F) (Name := ℕ) (U := UU) where
  st := fun _ d c => oPart d (coreSet c.val) (m (oLoc d))
  dn := fun _ d c => oPart d (coreSet c.val) (bitsBuf d)
  go := fun _ d c i => oPart d (tileSet c.val i.val) (m (oLoc d))
  td := fun _ d c i => oPart d (tileSet c.val i.val) (bitsBuf d)
  x := fun _ _ => iprop(emp)

/-- What the handshakes carry can be stored in an invariant. -/
instance P_storable : (P (F := F) m).IsStorable where
  st _ d c := (inferInstance : BI.Storable (upEmb : UEmb _ 𝕄) (oPart d (coreSet c.val) (m (oLoc d))))
  dn _ d c := (inferInstance : BI.Storable (upEmb : UEmb _ 𝕄) (oPart d (coreSet c.val) (bitsBuf d)))
  go _ d c i := (inferInstance : BI.Storable (upEmb : UEmb _ 𝕄) (oPart d (tileSet c.val i.val) (m (oLoc d))))
  td _ d c i := (inferInstance : BI.Storable (upEmb : UEmb _ 𝕄) (oPart d (tileSet c.val i.val) (bitsBuf d)))

variable [FloatOps F]

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- A tile's thread runs the bits kernel at the tile's coordinates. -/
theorem defs₀_vector (c : Fin τ.nSC) (s : Fin τ.nSub) :
    defs₀ (F := F) (.scVector c s) 0 ()
      = SparseCore.onTile hcore0 hsub0 (fun c s => cc0__sc_bits (coordsV c s)
          oV (Memref.isWhole_whole _) sV (Memref.isWhole_whole _) cc0_scoped0 cc0_scoped1) ⟨⟩ c s := rfl

/-- The waits a tile's body records are allowed by the call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (m (oLoc d)) O W hO).trans (wp_mono frame _ _ fun _ => obl_post)

/-- A SparseCore's half splits among its tiles and joins again. -/
theorem vecSplit : (K (F := F)).VecSplit' (P m) 0 := by
  intro d c
  have hc : c.val < 2 := c.isLt
  have h : ∀ f : Buf (Elt F) (oLoc d), (oPart d (coreSet c.val) f : sProp 𝕄)
      = bigSep Finset.univ fun i : Fin ((K (F := F)).nSub 0) => oPart d (tileSet c.val i.val) f := fun f => core_tiles d f c.val hc
  show oPart d (coreSet c.val) (m (oLoc d)) ⊢ |={Set.univ}=> iprop(
      (bigSep Finset.univ fun i : Fin ((K (F := F)).nSub 0) => oPart d (tileSet c.val i.val) (m (oLoc d)))
      ∗ ((bigSep Finset.univ fun i : Fin ((K (F := F)).nSub 0) => oPart d (tileSet c.val i.val) (bitsBuf d)) -∗ oPart d (coreSet c.val) (bitsBuf d)))
  rw [h, h]
  iintro H; imodintro
  isplitl [H]; · iexact H
  iintro H
  iexact H

/-! ## The launch's ghost state -/

/-- The launch element: the handshakes' cells, the two pipelines' cells, no counters. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- A core's ghost state of the two pipelines. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

omit [FloatOps F] in
/-- The launch element owned gives the handshakes' part and the pipelines' part. -/
theorem own_three (a : UH) (b : UP) (c : Counters) :
    (ownU ((a, (b, c)) : UU) : sProp 𝕄) ⊢ iprop(BI.own (EH a) ∗ BI.own (EP b)) := by
  refine (ownU_pair a (b, c)).trans (BIClass.sep_mono (BI.Entails.refl _) ?_)
  have h := own_pair_emb (((Emb.inr : Emb (UP × Counters) UU)).trans
      (uEmb (nD := nD) (τ := τ) (sig := sig) (Ix := HIx 1) (Val := Elt F) (Name := ℕ) (U := UU) (Lvl := ℕ)).toEmb) b c
  exact h.trans sep_elim_left

/-- The launch element gives the handshakes' part, each core's ghost state and, of the tiles, nothing. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀ G
  rw [bigSep_sep']
  iintro Hu
  ihave H := (own_three _ _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · isplitl [Hg] <;> iassumption
  · rw [show (bigSep Finset.univ fun thr : Thread nD τ => bigSep Finset.univ fun q : Fin 1 => (P (F := F) m).x q thr : sProp 𝕄) = iprop(emp) from
      (bigSep_congr fun _ _ => bigSep_emp_const _).trans (bigSep_emp_const _)]
    itrivial

end Cert.Proof.KernelIdeal

end
-- ==== Proof.Region1.lean ====
/-
  The main TensorCore call: its body at every grid point leaves the running best in the scratch buffers and, at the last
  point, in the two results; the call as a region of @main, from any contents of the unscoped buffers.
-/
module

public import proofs.«01_k».proof.Proof.Setup
public import Idealize.ShloMosaic.Lib.Pipeline.RegionsLoop
public import Idealize.ShloMosaic.Lib.Pipeline.ValueKit.Geometry

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf BodyObligationLoose)

variable {F : FTy → Type}

local notation "𝕄" => MT nD τ sig (HIx 1) (Elt F) ℕ UU ℕ

namespace R1

variable (V : (c : Dev nD) → (b : Ref sig .tc) → Buf (Elt F) ((c : Thread nD τ).loc b))

/-- The other call's buffers, which this one does not touch. -/
abbrev others (c : Dev nD) : sProp 𝕄 :=
  iprop(any c cc2_stg0_0 ∗ any c cc2_stg0_1 ∗ any c cc2_stg1_0 ∗ any c cc2_stg1_1 ∗ any c cc2_stg2_0 ∗ any c cc2_stg3_0
    ∗ any c cc2_scratch0 ∗ any c cc2_scratch1)

variable [FloatOps F]

/-- The logits the call reads. -/
abbrev X (c : Dev nD) : Vec F S64x1000000 .f32 := V c main_arg0

/-- Before point `n` the scratch buffers hold the running best (anything before the first). -/
def Φc (c : Dev nD) (n : ℕ) : sProp 𝕄 :=
  iprop((∃ b p, ⌜n ≠ 0 → b = (mainAcc (X V c) n).1 ∧ p = (mainAcc (X V c) n).2⌝
      ∗ owns (c : Thread nD τ) (Memref.whole cc1_scratch0) fullShare b ∗ owns (c : Thread nD τ) (Memref.whole cc1_scratch1) fullShare p)
    ∗ others c)

/-- The call's proof data. -/
def dat (c : Dev nD) : Dat τ (Elt F) (HIx 1) ℕ UU ℕ cfg1 c where
  A w := V c (Pipeline.arrRef spec1 w)
  after w t := match w with
    | ⟨0, _⟩ => mainBlock (X V c) t.val
    | ⟨1, _⟩ => (mainAcc (X V c) 44).1
    | ⟨2, _⟩ => colOf (mainAcc (X V c) 44).2
  Φ t := Φc V c t.val
  q _ := fullShare
  owed _ := 0

/-- The logits' buffer holds the point's block when the body runs. -/
theorem before_in (c : Dev nD) (t : Fin cfg1.N) (d : (cfg1.win 0).block.Idx → Elt F (cfg1.win 0).elt) :
    (dat V c).before 0 t d = mainBlock (X V c) t.val := by
  unfold Dat.before; rw [if_pos (fetch1_0 t)]
  exact fill1_0 (V c main_arg0) t d

/-- Two of the body's results at a point: what is there, or the final best. -/
theorem emit_eq {α : Type} (t : Fin cfg1.N) (f : ℕ → α) (o : α) :
    (if k1_cond2 (grid1.coords t) = 1#1 then f (t.val + 1) else o) = if t.val % 44 = 43 then f 44 else o := by
  have h := emit1 t
  have ht : t.val < 44 := lt_of_lt_of_eq t.isLt N_1
  by_cases h43 : t.val % 44 = 43
  · rw [if_pos h43, if_pos (h.mpr h43), show t.val + 1 = 44 by omega]
  · rw [if_neg h43, if_neg (mt h.mp h43)]

/-- The body at a point, whatever buffers it is given. -/
theorem point (c : Dev nD) (t : Fin grid1.N)
    (arg1 : Memref sig .tc .vmem S64x16384 .f32) (harg1 : arg1.IsWhole) (arg2 : Memref sig .tc .vmem S64x1 .f32) (harg2 : arg2.IsWhole)
    (arg3 : Memref sig .tc .vmem S64x1 .i32) (harg3 : arg3.IsWhole) (arg4 : Memref sig .tc .vmem S64x1 .f32) (harg4 : arg4.IsWhole)
    (arg5 : Memref sig .tc .vmem S64x1 .i32) (harg5 : arg5.IsWhole)
    (b ov : FVec F S64x1 .f32) (p oi : IVec S64x1 32) (Q : PUnit → sProp 𝕄)
    (hb : t.val ≠ 0 → b = (mainAcc (X V c) t.val).1 ∧ p = (mainAcc (X V c) t.val).2) :
    iprop((owns (c : Thread nD τ) arg1 fullShare (mainBlock (X V c) t.val) ∗ owns (c : Thread nD τ) arg2 fullShare ov ∗ owns (c : Thread nD τ) arg3 fullShare oi
          ∗ owns (c : Thread nD τ) arg4 fullShare b ∗ owns (c : Thread nD τ) arg5 fullShare p)
        ∗ (iprop(owns (c : Thread nD τ) arg1 fullShare (mainBlock (X V c) t.val)
            ∗ owns (c : Thread nD τ) arg2 fullShare (if t.val % 44 = 43 then (mainAcc (X V c) 44).1 else ov)
            ∗ owns (c : Thread nD τ) arg3 fullShare (if t.val % 44 = 43 then colOf (mainAcc (X V c) 44).2 else oi)
            ∗ owns (c : Thread nD τ) arg4 fullShare (mainAcc (X V c) (t.val + 1)).1
            ∗ owns (c : Thread nD τ) arg5 fullShare (mainAcc (X V c) (t.val + 1)).2) -∗ Q ⟨⟩))
      ⊢ wp frame (wpE (defs₀ (F := F)) 𝒱₀ c none) Set.univ
          (cc1__main_body (F := F) (grid1.coords t) arg1 harg1 arg2 harg2 arg3 harg3 arg4 harg4 arg5 harg5) Q := by
  rw [← emit_eq t (fun n => (mainAcc (X V c) n).1) ov, ← emit_eq t (fun n => colOf (mainAcc (X V c) n).2) oi]
  have hc : ((grid1.coords t) 0).val = t.val := coords1 t
  by_cases h0 : t.val = 0
  · have key := wp_main_first c Set.univ (grid1.coords t) arg1 harg1 arg2 harg2 arg3 harg3 arg4 harg4 arg5 harg5 (Q := Q)
      ((first1 t).mpr h0) (mainBlock (X V c) t.val) b ov p oi
    have e : mainAcc (X V c) (t.val + 1) = mainPoint ((grid1.coords t) 0).val (mainBlock (X V c) t.val) best0 := by
      rw [hc, mainAcc, h0]; rfl
    rw [e]; exact key
  · have key := wp_main_rest c Set.univ (grid1.coords t) arg1 harg1 arg2 harg2 arg3 harg3 arg4 harg4 arg5 harg5 (Q := Q)
      (mt (first1 t).mp h0) (mainBlock (X V c) t.val) (mainAcc (X V c) t.val) ov oi
    have e : mainAcc (X V c) (t.val + 1) = mainPoint ((grid1.coords t) 0).val (mainBlock (X V c) t.val) (mainAcc (X V c) t.val) := by
      rw [hc, mainAcc]
    obtain ⟨rfl, rfl⟩ := hb h0
    rw [e]; exact key

/-- The body's obligation at every point. -/
theorem body_obligation (c : Dev nD) : BodyObligationLoose (dat V c) (defs₀ (F := F)) 𝒱₀ none Set.univ := fun t => by
  have ht : t.val < 44 := lt_of_lt_of_eq t.isLt N_1
  rw [bigSep_W1, bigSep_W1]
  rw [show (dat V c).Φ t.castSucc = Φc V c t.val from rfl, show (dat V c).Φ t.succ = Φc V c (t.val + 1) from rfl,
    show (dat V c).owesAt none t.succ = (dat V c).owesAt none t.castSucc from rfl]
  unfold Φc
  iintro ⟨⟨⟨%b, %p, %hb, Hb, Hp⟩, Hrest⟩, Howes, ⟨%d0, H0⟩, ⟨%d1, H1⟩, ⟨%d2, H2⟩⟩
  rw [before_in]
  iapply (point V c t _ _ _ _ _ _ _ _ _ _ b ((dat V c).before 1 t d1) p ((dat V c).before 2 t d2) _ hb)
  isplitl [H0 H1 H2 Hb Hp]
  · isplitl [H0]; · iexact H0
    isplitl [H1]; · iexact H1
    isplitl [H2]; · iexact H2
    isplitl [Hb]; · iexact Hb
    iexact Hp
  iintro ⟨H0, H1, H2, Hb, Hp⟩
  isplitl [Hb Hp Hrest]
  · isplitl [Hb Hp]
    · iexists _; iexists _
      isplitr; swap
      · isplitl [Hb]; · iexact Hb
        iexact Hp
      ipureintro; exact fun _ => ⟨rfl, rfl⟩
    iexact Hrest
  isplitl [Howes]; · iexact Howes
  isplitl [H0]
  · iexists d0
    have e : (cfg1.win 0).fill (cfg1.grid.coords t) d0 ((cfg1.win 0).cut (cfg1.grid.coords t) ((dat V c).after 0 t)) = mainBlock (X V c) t.val := by
      have e1 := fill1_0 (V c main_arg0) t d0
      show (cfg1.win 0).fill (cfg1.grid.coords t) d0 ((cfg1.win 0).cut (cfg1.grid.coords t) (mainBlock (X V c) t.val)) = _
      rw [← e1]
      exact congrArg _ ((cfg1.win 0).cut_fill _ _ _)
    rw [e]; iexact H0
  by_cases h43 : t.val % 44 = 43
  · rw [if_pos h43, if_pos h43]
    have hi1 : cfg1.idle 1 (cfg1.grid.coords t) = false := by
      show (!(k1_cond2 (grid1.coords t) == 1#1)) = false
      rw [(emit1 t).mpr h43]; rfl
    rw [hi1]
    isplitl [H1]; · iexact H1
    iexact H2
  · rw [if_neg h43, if_neg h43]
    have hi1 : cfg1.idle 1 (cfg1.grid.coords t) = true := by
      show (!(k1_cond2 (grid1.coords t) == 1#1)) = true
      rw [Bool.not_eq_true', beq_eq_false_iff_ne]; exact mt (emit1 t).mp h43
    have hf1 : (cfg1.win 1).flush t = false := by
      rw [← Bool.not_eq_true]; exact mt (flush1_1 t).mp h43
    have hf2 : (cfg1.win 2).flush t = false := by
      rw [← Bool.not_eq_true]; exact mt (flush1_2 t).mp h43
    rw [hi1, hf1, hf2]
    isplitl [H1]; · iexists d1; iexact H1
    iexists d2; iexact H2

/-- The first result after the call: the best of each row. -/
theorem out_best (c : Dev nD) : (dat V c).arrAt 1 cfg1.N = (mainAcc (X V c) 44).1 :=
  (dat V c).arrAt_eq_of_after_last 1 ⟨43, by decide +kernel⟩ (by decide +kernel) _ fun j => rfl

/-- The second result after the call: its column. -/
theorem out_col (c : Dev nD) : (dat V c).arrAt 2 cfg1.N = colOf (mainAcc (X V c) 44).2 :=
  (dat V c).arrAt_eq_of_after_last 2 ⟨43, by decide +kernel⟩ (by decide +kernel) _ fun j => rfl

variable [∀ e, Nonempty (Elt F e)]

/-- The proof data of both pipelines: this call's at its own. -/
def pdats : (p : Fin 2) → (c : Dev nD) → Dat τ (Elt F) (HIx 1) ℕ UU ℕ (Pipeline.pin (pcfgs (F := F)) adm p) c
  | ⟨0, _⟩ => fun c => dat V c
  | ⟨1, _⟩ => fun c => junkDat c

/-- Between points the invariant is the buffers the pipeline does not stage. -/
theorem scratch_in (c : Dev nD) : (Pipeline.scopedRest (Ix := HIx 1) (Name := ℕ) (U := UU) (Lvl := ℕ) (Val := Elt F) spec1 c : sProp 𝕄) ⊢ Φc V c 0 := by
  rw [scopedRest1_eq]
  unfold Φc
  iintro ⟨Hb, Hp, Hr⟩
  isplitl [Hb Hp]
  · ihave Hb := (any_owns c cc1_scratch0) $$ Hb
    ihave Hp := (any_owns c cc1_scratch1) $$ Hp
    icases Hb with ⟨%b, Hb⟩
    icases Hp with ⟨%p, Hp⟩
    iexists b; iexists p
    isplitr; · ipureintro; exact fun h => absurd rfl h
    isplitl [Hb]; · iexact Hb
    iexact Hp
  iexact Hr

/-- And back. -/
theorem scratch_out (c : Dev nD) (n : ℕ) : Φc V c n ⊢ (Pipeline.scopedRest (Ix := HIx 1) (Name := ℕ) (U := UU) (Lvl := ℕ) (Val := Elt F) spec1 c : sProp 𝕄) := by
  rw [scopedRest1_eq]
  unfold Φc
  iintro ⟨⟨%b, %p, -, Hb, Hp⟩, Hr⟩
  isplitl [Hb]; · iapply (owns_any c cc1_scratch0 b); iexact Hb
  isplitl [Hp]; · iapply (owns_any c cc1_scratch1 p); iexact Hp
  iexact Hr

variable (Vp : (c : Dev nD) → (b : Ref sig .tc) → Buf (Elt F) ((c : Thread nD τ).loc b))
variable (L : GSem nD τ sig → Finset (HIx 1)) (lv : GSem nD τ sig → HIx 1 → ℕ)

set_option backward.isDefEq.respectTransparency.types false in
/-- The call as a region: from the unscoped buffers at `V` to the same with the two results at the best and its column. -/
def reg (R : Dev nD → sProp 𝕄) (h1 : ∀ c, Vp c main_v1_0 = (mainAcc (X V c) 44).1) (h2 : ∀ c, Vp c main_v1_1 = colOf (mainAcc (X V c) 44).2)
    (hne : ∀ c (b : Ref sig .tc), b ≠ main_v1_0 → b ≠ main_v1_1 → Vp c b = V c b) :
    Pipeline.RegionSeg (pcfgs (F := F)) adm (pdats V) none defs₀ 𝒱₀ L lv 0 where
  win := launch1.win.to₀
  block_pos := launch1.block_pos
  stage_whole := launch1.stage_whole
  K := PEmpty
  osem k := k.elim
  ho := Pipeline.OwnSemFacts.none _
  hbody c := body_obligation V c
  hwaits := Pipeline.hwaits_of_owed_zero _ _ _ _ L lv 0 fun _ _ => rfl
  pre c := iprop(unscopedBufs c (V c) ∗ R c ∗ ∃ W, owes (c : Thread nD τ) (0 : CellTallies nD τ sig (HIx 1)) W)
  post c := iprop(unscopedBufs c (Vp c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V 0 c).Φ 0 = Φc V c 0 from rfl]
    iintro ⟨-, -, Hr⟩
    iapply (scratch_in V c); iexact Hr
  hout c := by
    rw [Pipeline.ownSems0_none, show (pdats V 0 c).Φ (Fin.last _) = Φc V c cfg1.N from rfl]
    iintro Hr
    isplitr; · iempintro
    isplitr; · iempintro
    iapply (scratch_out V c _); iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_arg0 (by decide) (by decide)).symm
        · exact (out_best V c).trans (h1 c).symm
        · exact (out_col V c).trans (h2 c).symm)
      (fun b hb => hne c b (fun h => hb (h ▸ Finset.mem_image.mpr ⟨1, Finset.mem_univ _, rfl⟩))
        (fun h => hb (h ▸ Finset.mem_image.mpr ⟨2, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end R1

end Cert.Proof.KernelIdeal

end
-- ==== Proof.Region2.lean ====
/-
  The tail TensorCore call: its body at every grid point leaves the running best in the scratch buffers and, at the last
  point, in the two results; the call as a region of @main, from any contents of the unscoped buffers.
-/
module

public import proofs.«01_k».proof.Proof.Region1
public import Idealize.ShloMosaic.Lib.Pipeline.RegionsLoop
public import Idealize.ShloMosaic.Lib.Pipeline.ValueKit.Geometry

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf BodyObligationLoose)

variable {F : FTy → Type}

local notation "𝕄" => MT nD τ sig (HIx 1) (Elt F) ℕ UU ℕ

namespace R2

variable (V : (c : Dev nD) → (b : Ref sig .tc) → Buf (Elt F) ((c : Thread nD τ).loc b))

/-- The other call's buffers, which this one does not touch. -/
abbrev others (c : Dev nD) : sProp 𝕄 :=
  iprop(any c cc1_stg0_0 ∗ any c cc1_stg0_1 ∗ any c cc1_stg1_0 ∗ any c cc1_stg2_0 ∗ any c cc1_scratch0 ∗ any c cc1_scratch1)

variable [FloatOps F]

/-- The logits the call reads. -/
abbrev X (c : Dev nD) : Vec F S64x1000000 .f32 := V c main_arg0
/-- The bits the call reads. -/
abbrev B (c : Dev nD) : Vec F S35x64x8192 .i32 := V c main_v0
/-- The running best after `n` points. -/
abbrev acc (c : Dev nD) (n : ℕ) : Best F := tailAcc (B V c) (X V c) n

/-- Before point `n` the scratch buffers hold the running best (anything before the first). -/
def Φc (c : Dev nD) (n : ℕ) : sProp 𝕄 :=
  iprop((∃ b p, ⌜n ≠ 0 → b = (acc V c n).1 ∧ p = (acc V c n).2⌝
      ∗ owns (c : Thread nD τ) (Memref.whole cc2_scratch0) fullShare b ∗ owns (c : Thread nD τ) (Memref.whole cc2_scratch1) fullShare p)
    ∗ others c)

/-- The block of bits at a point. -/
abbrev bits (c : Dev nD) (t : Fin grid2.N) : Vec F S1x64x8192 .i32 := (win2_0.blk t).view.read (Elt F) (V c main_v0)
/-- The block of logits at a point, over `d` past the array's end. -/
abbrev block (c : Dev nD) (t : Fin grid2.N) (d : win2_1.block.Idx → F .f32) : Vec F S64x8192 .f32 :=
  win2_1.fill (grid2.coords t) d ((win2_1.blk t).view.read (Elt F) (V c main_arg0))

/-- The call's proof data. -/
def dat (c : Dev nD) : Dat τ (Elt F) (HIx 1) ℕ UU ℕ cfg2 c where
  A w := V c (Pipeline.arrRef spec2 w)
  after w t := match w with
    | ⟨0, _⟩ => bits V c t
    | ⟨1, _⟩ => block V c t fun _ => Scalar.ofBits (F := F) .f32 0#32
    | ⟨2, _⟩ => (acc V c 35).1
    | ⟨3, _⟩ => colOf (acc V c 35).2
  Φ t := Φc V c t.val
  q _ := fullShare
  owed _ := 0

/-- The bits' buffer holds the point's block when the body runs. -/
theorem before_bits (c : Dev nD) (t : Fin cfg2.N) (d : (cfg2.win 0).block.Idx → Elt F (cfg2.win 0).elt) :
    (dat V c).before 0 t d = bits V c t := by
  unfold Dat.before; rw [if_pos (fetch2_0 t)]; rfl

/-- The logits' buffer holds the point's block when the body runs. -/
theorem before_logits (c : Dev nD) (t : Fin cfg2.N) (d : (cfg2.win 1).block.Idx → Elt F (cfg2.win 1).elt) :
    (dat V c).before 1 t d = block V c t d := by
  unfold Dat.before; rw [if_pos (fetch2_1 t)]; rfl

/-- Two of the body's results at a point: what is there, or the final best. -/
theorem emit_eq {α : Type} (t : Fin cfg2.N) (f : ℕ → α) (o : α) :
    (if k2_cond2 (grid2.coords t) = 1#1 then f (t.val + 1) else o) = if t.val % 35 = 34 then f 35 else o := by
  have h := emit2 t
  have ht : t.val < 35 := lt_of_lt_of_eq t.isLt N_2
  by_cases h34 : t.val % 35 = 34
  · rw [if_pos h34, if_pos (h.mpr h34), show t.val + 1 = 35 by omega]
  · rw [if_neg h34, if_neg (mt h.mp h34)]

/-- The body at a point, whatever buffers it is given. -/
theorem point (c : Dev nD) (t : Fin grid2.N) (d : win2_1.block.Idx → F .f32)
    (arg1 : Memref sig .tc .vmem S1x64x8192 .i32) (harg1 : arg1.IsWhole) (arg2 : Memref sig .tc .vmem S64x8192 .f32) (harg2 : arg2.IsWhole)
    (arg3 : Memref sig .tc .vmem S64x1 .f32) (harg3 : arg3.IsWhole) (arg4 : Memref sig .tc .vmem S64x1 .i32) (harg4 : arg4.IsWhole)
    (arg5 : Memref sig .tc .vmem S64x1 .f32) (harg5 : arg5.IsWhole) (arg6 : Memref sig .tc .vmem S64x1 .i32) (harg6 : arg6.IsWhole)
    (b ov : FVec F S64x1 .f32) (p oi : IVec S64x1 32) (Q : PUnit → sProp 𝕄)
    (hb : t.val ≠ 0 → b = (acc V c t.val).1 ∧ p = (acc V c t.val).2) :
    iprop(((owns (c : Thread nD τ) arg1 fullShare (bits V c t) ∗ owns (c : Thread nD τ) arg2 fullShare (block V c t d))
          ∗ owns (c : Thread nD τ) arg3 fullShare ov ∗ owns (c : Thread nD τ) arg4 fullShare oi
          ∗ owns (c : Thread nD τ) arg5 fullShare b ∗ owns (c : Thread nD τ) arg6 fullShare p)
        ∗ (iprop((owns (c : Thread nD τ) arg1 fullShare (bits V c t) ∗ owns (c : Thread nD τ) arg2 fullShare (block V c t d))
            ∗ owns (c : Thread nD τ) arg3 fullShare (if t.val % 35 = 34 then (acc V c 35).1 else ov)
            ∗ owns (c : Thread nD τ) arg4 fullShare (if t.val % 35 = 34 then colOf (acc V c 35).2 else oi)
            ∗ owns (c : Thread nD τ) arg5 fullShare (acc V c (t.val + 1)).1
            ∗ owns (c : Thread nD τ) arg6 fullShare (acc V c (t.val + 1)).2) -∗ Q ⟨⟩))
      ⊢ wp frame (wpE (defs₀ (F := F)) 𝒱₀ c none) Set.univ
          (cc2__tail_body (F := F) (grid2.coords t) arg1 harg1 arg2 harg2 arg3 harg3 arg4 harg4 arg5 harg5 arg6 harg6) Q := by
  rw [← emit_eq t (fun n => (acc V c n).1) ov, ← emit_eq t (fun n => colOf (acc V c n).2) oi]
  have hc : ((grid2.coords t) 0).val = t.val := coords2 t
  have e := tailPoint_fill (B V c) (X V c) t d
  by_cases h0 : t.val = 0
  · have key := wp_tail_first c Set.univ (grid2.coords t) arg1 harg1 arg2 harg2 arg3 harg3 arg4 harg4 arg5 harg5 arg6 harg6 (Q := Q)
      ((first2 t).mpr h0) (bits V c t) (block V c t d) b ov p oi
    rw [show tailAcc (B V c) (X V c) t.val = best0 by rw [h0]; rfl] at e
    rw [hc] at key
    unfold acc
    rw [← e]; exact key
  · have key := wp_tail_rest c Set.univ (grid2.coords t) arg1 harg1 arg2 harg2 arg3 harg3 arg4 harg4 arg5 harg5 arg6 harg6 (Q := Q)
      (mt (first2 t).mp h0) (bits V c t) (block V c t d) (acc V c t.val) ov oi
    obtain ⟨rfl, rfl⟩ := hb h0
    rw [hc] at key
    unfold acc at key ⊢
    rw [← e]; exact key

/-- The body's obligation at every point. -/
theorem body_obligation (c : Dev nD) : BodyObligationLoose (dat V c) (defs₀ (F := F)) 𝒱₀ none Set.univ := fun t => by
  have ht : t.val < 35 := lt_of_lt_of_eq t.isLt N_2
  rw [bigSep_W2, bigSep_W2]
  rw [show (dat V c).Φ t.castSucc = Φc V c t.val from rfl, show (dat V c).Φ t.succ = Φc V c (t.val + 1) from rfl,
    show (dat V c).owesAt none t.succ = (dat V c).owesAt none t.castSucc from rfl]
  unfold Φc
  iintro ⟨⟨⟨%b, %p, %hb, Hb, Hp⟩, Hrest⟩, Howes, ⟨%d0, H0⟩, ⟨%d1, H1⟩, ⟨%d2, H2⟩, ⟨%d3, H3⟩⟩
  rw [before_bits, before_logits]
  iapply (point V c t d1 _ _ _ _ _ _ _ _ _ _ _ _ b ((dat V c).before 2 t d2) p ((dat V c).before 3 t d3) _ hb)
  isplitl [H0 H1 H2 H3 Hb Hp]
  · isplitl [H0 H1]
    · isplitl [H0]; · iexact H0
      iexact H1
    isplitl [H2]; · iexact H2
    isplitl [H3]; · iexact H3
    isplitl [Hb]; · iexact Hb
    iexact Hp
  iintro ⟨⟨H0, H1⟩, H2, H3, Hb, Hp⟩
  isplitl [Hb Hp Hrest]
  · isplitl [Hb Hp]
    · iexists _; iexists _
      isplitr; swap
      · isplitl [Hb]; · iexact Hb
        iexact Hp
      ipureintro; exact fun _ => ⟨rfl, rfl⟩
    iexact Hrest
  isplitl [Howes]; · iexact Howes
  isplitl [H0]; · iexact H0
  isplitl [H1]
  · iexists d1
    have e : (cfg2.win 1).fill (cfg2.grid.coords t) d1 ((cfg2.win 1).cut (cfg2.grid.coords t) ((dat V c).after 1 t)) = block V c t d1 :=
      congrArg _ ((cfg2.win 1).cut_fill _ _ _)
    rw [e]; iexact H1
  by_cases h34 : t.val % 35 = 34
  · rw [if_pos h34, if_pos h34]
    have hi1 : cfg2.idle 2 (cfg2.grid.coords t) = false := by
      show (!(k2_cond2 (grid2.coords t) == 1#1)) = false
      rw [(emit2 t).mpr h34]; rfl
    rw [hi1]
    isplitl [H2]; · iexact H2
    iexact H3
  · rw [if_neg h34, if_neg h34]
    have hi1 : cfg2.idle 2 (cfg2.grid.coords t) = true := by
      show (!(k2_cond2 (grid2.coords t) == 1#1)) = true
      rw [Bool.not_eq_true', beq_eq_false_iff_ne]; exact mt (emit2 t).mp h34
    have hf1 : (cfg2.win 2).flush t = false := by
      rw [← Bool.not_eq_true]; exact mt (flush2_2 t).mp h34
    have hf2 : (cfg2.win 3).flush t = false := by
      rw [← Bool.not_eq_true]; exact mt (flush2_3 t).mp h34
    rw [hi1, hf1, hf2]
    isplitl [H2]; · iexists d2; iexact H2
    iexists d3; iexact H3

/-- The first result after the call: the best of each row. -/
theorem out_best (c : Dev nD) : (dat V c).arrAt 2 cfg2.N = (acc V c 35).1 :=
  (dat V c).arrAt_eq_of_after_last 2 ⟨34, by decide +kernel⟩ (by decide +kernel) _ fun j => rfl

/-- The second result after the call: its column. -/
theorem out_col (c : Dev nD) : (dat V c).arrAt 3 cfg2.N = colOf (acc V c 35).2 :=
  (dat V c).arrAt_eq_of_after_last 3 ⟨34, by decide +kernel⟩ (by decide +kernel) _ fun j => rfl

variable [∀ e, Nonempty (Elt F e)]

/-- The proof data of both pipelines: this call's at its own. -/
def pdats : (p : Fin 2) → (c : Dev nD) → Dat τ (Elt F) (HIx 1) ℕ UU ℕ (Pipeline.pin (pcfgs (F := F)) adm p) c
  | ⟨0, _⟩ => fun c => junkDat c
  | ⟨1, _⟩ => fun c => dat V c

/-- Between points the invariant is the buffers the pipeline does not stage. -/
theorem scratch_in (c : Dev nD) : (Pipeline.scopedRest (Ix := HIx 1) (Name := ℕ) (U := UU) (Lvl := ℕ) (Val := Elt F) spec2 c : sProp 𝕄) ⊢ Φc V c 0 := by
  rw [scopedRest2_eq]
  unfold Φc
  iintro ⟨G1, G2, G3, G4, G5, G6, Hb, Hp⟩
  isplitl [Hb Hp]
  · ihave Hb := (any_owns c cc2_scratch0) $$ Hb
    ihave Hp := (any_owns c cc2_scratch1) $$ Hp
    icases Hb with ⟨%b, Hb⟩
    icases Hp with ⟨%p, Hp⟩
    iexists b; iexists p
    isplitr; · ipureintro; exact fun h => absurd rfl h
    isplitl [Hb]; · iexact Hb
    iexact Hp
  isplitl [G1]; · iexact G1
  isplitl [G2]; · iexact G2
  isplitl [G3]; · iexact G3
  isplitl [G4]; · iexact G4
  isplitl [G5]; · iexact G5
  iexact G6

/-- And back. -/
theorem scratch_out (c : Dev nD) (n : ℕ) : Φc V c n ⊢ (Pipeline.scopedRest (Ix := HIx 1) (Name := ℕ) (U := UU) (Lvl := ℕ) (Val := Elt F) spec2 c : sProp 𝕄) := by
  rw [scopedRest2_eq]
  unfold Φc
  iintro ⟨⟨%b, %p, -, Hb, Hp⟩, G1, G2, G3, G4, G5, G6⟩
  isplitl [G1]; · iexact G1
  isplitl [G2]; · iexact G2
  isplitl [G3]; · iexact G3
  isplitl [G4]; · iexact G4
  isplitl [G5]; · iexact G5
  isplitl [G6]; · iexact G6
  isplitl [Hb]; · iapply (owns_any c cc2_scratch0 b); iexact Hb
  iapply (owns_any c cc2_scratch1 p); iexact Hp

variable (Vp : (c : Dev nD) → (b : Ref sig .tc) → Buf (Elt F) ((c : Thread nD τ).loc b))
variable (L : GSem nD τ sig → Finset (HIx 1)) (lv : GSem nD τ sig → HIx 1 → ℕ)

set_option backward.isDefEq.respectTransparency.types false in
/-- The call as a region: from the unscoped buffers at `V` to the same with the two results at the best and its column. -/
def reg (R : Dev nD → sProp 𝕄) (h1 : ∀ c, Vp c main_v2_0 = (acc V c 35).1) (h2 : ∀ c, Vp c main_v2_1 = colOf (acc V c 35).2)
    (hne : ∀ c (b : Ref sig .tc), b ≠ main_v2_0 → b ≠ main_v2_1 → Vp c b = V c b) :
    Pipeline.RegionSeg (pcfgs (F := F)) adm (pdats V) none defs₀ 𝒱₀ L lv 1 where
  win := launch2.win.to₀
  block_pos := launch2.block_pos
  stage_whole := launch2.stage_whole
  K := PEmpty
  osem k := k.elim
  ho := Pipeline.OwnSemFacts.none _
  hbody c := body_obligation V c
  hwaits := Pipeline.hwaits_of_owed_zero _ _ _ _ L lv 1 fun _ _ => rfl
  pre c := iprop(unscopedBufs c (V c) ∗ R c ∗ ∃ W, owes (c : Thread nD τ) (0 : CellTallies nD τ sig (HIx 1)) W)
  post c := iprop(unscopedBufs c (Vp c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats V) launch2.win launch2.arr_whole c
      ((pdats V 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V 1 c).Φ 0 = Φc V c 0 from rfl]
    iintro ⟨-, -, Hr⟩
    iapply (scratch_in V c); iexact Hr
  hout c := by
    rw [Pipeline.ownSems0_none, show (pdats V 1 c).Φ (Fin.last _) = Φc V c cfg2.N from rfl]
    iintro Hr
    isplitr; · iempintro
    isplitr; · iempintro
    iapply (scratch_out V c _); iexact Hr
  hexit c := by
    have hjoin := Pipeline.unscopedBufs_of_arrays (p := 1) (pcfgs (F := F)) adm (Ix := HIx 1) (Name := ℕ) (U := UU) (Lvl := ℕ) launch2.win launch2.arr_whole c
      (pdats V) ((pdats V 1 c).share_full fun _ => rfl) (V c) (Vp c) ((pdats V 1 c).arrAt · cfg2.N)
      (fun w => by
        fin_cases w
        · exact ((pdats V 1 c).arrAt_in 0 rfl _).trans (hne c main_v0 (by decide) (by decide)).symm
        · exact ((pdats V 1 c).arrAt_in 1 rfl _).trans (hne c main_arg0 (by decide) (by decide)).symm
        · exact (out_best V c).trans (h1 c).symm
        · exact (out_col V c).trans (h2 c).symm)
      (fun b hb => hne c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end R2

end Cert.Proof.KernelIdeal

end
-- ==== Proof.LaunchRun.lean ====
/-
  The program's run: the SparseCore call leaves the bits, the two TensorCore calls the bests of their columns, and the
  host operations the answer.
-/
module

public import proofs.«01_k».proof.Proof.Launch
public import proofs.«01_k».proof.Proof.Region1
public import proofs.«01_k».proof.Proof.Region2
public import Idealize.ShloMosaic.Lib.Pipeline.Frame

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The buffers' contents through the program -/

/-- At the launch. -/
def W0 (d : Dev nD) : Valuation τ sig (Elt F) := fun b => m (d, b)
/-- After the SparseCore call. -/
def W1 (d : Dev nD) : Valuation τ sig (Elt F) := Function.update (W0 m d) (Proc.devRef .tc main_v0) (bitsBuf (F := F) d)
/-- The logits. -/
abbrev logits (d : Dev nD) : Vec F S64x1000000 .f32 := m ((SparseCore.T d).loc main_arg0)
/-- The best of the main call's columns. -/
def best1 (X : Vec F S64x1000000 .f32) : Best F := mainAcc X 44
/-- The best of the tail call's columns. -/
def best2 (X : Vec F S64x1000000 .f32) : Best F := tailAcc (bitsArr : IVec S35x64x8192 32) X 35
/-- After the main call. -/
def W2 (d : Dev nD) : Valuation τ sig (Elt F) :=
  Function.update (Function.update (W1 m d) (Proc.devRef .tc main_v1_0) (best1 (logits m d)).1) (Proc.devRef .tc main_v1_1) (colOf (best1 (logits m d)).2)
/-- After the tail call. -/
def W3 (d : Dev nD) : Valuation τ sig (Elt F) :=
  Function.update (Function.update (W2 m d) (Proc.devRef .tc main_v2_0) (best2 (logits m d)).1) (Proc.devRef .tc main_v2_1) (colOf (best2 (logits m d)).2)

/-- The kernel's result. -/
def kernelOut (X : Vec F S64x1000000 .f32) : IVec S64 32 :=
  shapeCast S64 (select (cmpf .ogt (best2 X).1 (best1 X).1) (colOf (best2 X).2) (colOf (best1 X).2)) shapeCasts_S64x1_S64

/-- The comparison of the two bests. -/
abbrev opCmp : HloOp τ sig (Elt F) :=
  StableHlo.binary main_v2_0 main_v1_0 main_v3 (cmpf .ogt : (⟨S64x1, .f32⟩ : BufTy).Contents (Elt F) → (⟨S64x1, .f32⟩ : BufTy).Contents (Elt F) → (⟨S64x1, .i1⟩ : BufTy).Contents (Elt F))
/-- The choice of the column. -/
abbrev opSel : HloOp τ sig (Elt F) :=
  StableHlo.TRef.ternary (.of main_v3 : StableHlo.TRef sig ⟨S64x1, .i1⟩) (.of main_v2_1 : StableHlo.TRef sig ⟨S64x1, .i32⟩) (.of main_v1_1 : StableHlo.TRef sig ⟨S64x1, .i32⟩) main_call0.v0 select
/-- The choice as a row. -/
abbrev opRow : HloOp τ sig (Elt F) :=
  StableHlo.reshape main_v4 main_v5 (rfl : (.i32 : EltTy) = .i32) shapeCasts_S64x1_S64

/-- At the end. -/
def W6 (d : Dev nD) : Valuation τ sig (Elt F) := opRow.result (opSel.result (opCmp.result (W3 m d)))

/-- The first call changes the bits only. -/
theorem W1_ne (d : Dev nD) (b : Ref sig .tc) (h : b ≠ main_v0) : W1 m d b = W0 m d b :=
  Function.update_of_ne (fun e => h (Proc.devRef_injective _ e)) _ _
/-- The second call changes its two results only. -/
theorem W2_ne (d : Dev nD) (b : Ref sig .tc) (h0 : b ≠ main_v1_0) (h1 : b ≠ main_v1_1) : W2 m d b = W1 m d b :=
  (Function.update_of_ne (fun e => h1 (Proc.devRef_injective _ e)) _ _).trans (Function.update_of_ne (fun e => h0 (Proc.devRef_injective _ e)) _ _)
/-- The third call changes its two results only. -/
theorem W3_ne (d : Dev nD) (b : Ref sig .tc) (h0 : b ≠ main_v2_0) (h1 : b ≠ main_v2_1) : W3 m d b = W2 m d b :=
  (Function.update_of_ne (fun e => h1 (Proc.devRef_injective _ e)) _ _).trans (Function.update_of_ne (fun e => h0 (Proc.devRef_injective _ e)) _ _)

/-- The first call leaves the bits. -/
theorem W1_v0 (d : Dev nD) : W1 m d main_v0 = (bitsArr : IVec S35x64x8192 32) := Function.update_self _ _ _
/-- The second call leaves the main columns' best scores. -/
theorem W2_fst (d : Dev nD) : W2 m d main_v1_0 = (best1 (logits m d)).1 :=
  (Function.update_of_ne (fun e => absurd (Proc.devRef_injective _ e) (by decide)) _ _).trans (Function.update_self _ _ _)
/-- The second call leaves the main columns' best columns. -/
theorem W2_snd (d : Dev nD) : W2 m d main_v1_1 = colOf (best1 (logits m d)).2 := Function.update_self _ _ _
/-- The third call leaves the tail columns' best scores. -/
theorem W3_fst (d : Dev nD) : W3 m d main_v2_0 = (best2 (logits m d)).1 :=
  (Function.update_of_ne (fun e => absurd (Proc.devRef_injective _ e) (by decide)) _ _).trans (Function.update_self _ _ _)
/-- The third call leaves the tail columns' best columns. -/
theorem W3_snd (d : Dev nD) : W3 m d main_v2_1 = colOf (best2 (logits m d)).2 := Function.update_self _ _ _
/-- After the first call the logits are as at the start. -/
theorem W1_arg (d : Dev nD) : W1 m d main_arg0 = logits m d := W1_ne m d _ (by decide)
/-- After the second call the logits are as at the start. -/
theorem W2_arg (d : Dev nD) : W2 m d main_arg0 = logits m d := (W2_ne m d _ (by decide) (by decide)).trans (W1_arg m d)
/-- After the second call the bits are as the first left them. -/
theorem W2_v0 (d : Dev nD) : W2 m d main_v0 = (bitsArr : IVec S35x64x8192 32) := (W2_ne m d _ (by decide) (by decide)).trans (W1_v0 m d)

/-- At the end the last buffer holds the kernel's result. -/
theorem W6_out (d : Dev nD) : W6 m d main_v5 = kernelOut (logits m d) := by
  unfold W6
  rw [StableHlo.reshape_result']
  show (fun i => shapeCast S64 (opSel.result (opCmp.result (W3 m d)) main_v4) shapeCasts_S64x1_S64 i) = _
  rw [show opSel.result (opCmp.result (W3 m d)) main_v4
      = select (opCmp.result (W3 m d) main_v3 : IVec S64x1 1) (opCmp.result (W3 m d) main_v2_1 : IVec S64x1 32) (opCmp.result (W3 m d) main_v1_1 : IVec S64x1 32)
    from StableHlo.ternary_result' _ _ _ _ _ _]
  rw [StableHlo.binary_result', StableHlo.binary_result_ne' _ _ _ _ _ (by decide), StableHlo.binary_result_ne' _ _ _ _ _ (by decide)]
  rw [W3_fst, W3_snd, W3_ne m d main_v1_0 (by decide) (by decide), W3_ne m d main_v1_1 (by decide) (by decide), W2_fst, W2_snd]
  rfl
/-- And the argument is unchanged. -/
theorem W6_arg (d : Dev nD) : W6 m d main_arg0 = logits m d := by
  unfold W6
  rw [StableHlo.reshape_result_ne' _ _ _ _ _ (by decide)]
  rw [show opSel.result (opCmp.result (W3 m d)) main_arg0 = opCmp.result (W3 m d) main_arg0
    from StableHlo.ternary_result_ne' _ _ _ _ _ _ (by decide)]
  rw [StableHlo.binary_result_ne' _ _ _ _ _ (by decide), W3_ne m d _ (by decide) (by decide), W2_arg]

/-! ## The program -/

/-- What a core's thread ends with. -/
def FIN (d : Dev nD) : sProp 𝕄 := unscopedBufs d fun b => W6 m d b

variable [∀ e, Nonempty (Elt F e)]

/-- The levels of a core's own waits are all below the next call's. -/
theorem wbelow (d : Dev nD) (W : Waits sig (HIx 1)) : (K (F := F)).WBelow (SparseCore.T d) W (8 * 1) := by
  intro p _
  rcases p with ⟨s, _ | q⟩
  · exact Nat.zero_le _
  · match q with
    | 0 => exact (by decide : 8 * 0 + 6 + 1 ≤ 8 * 1)

/-- The main call as a region. -/
def call1 (R : sProp 𝕄) : Pipeline.RegionSeg (pcfgs (F := F)) adm (R1.pdats fun c b => W1 m c b) none defs₀ 𝒱₀ (K (F := F)).L (K (F := F)).lev 0 :=
  R1.reg (fun c b => W1 m c b) (fun c b => W2 m c b) (K (F := F)).L (K (F := F)).lev (fun _ => R)
      (fun c => (W2_fst m c).trans (congrArg (fun X => (mainAcc X 44).1) (W1_arg m c).symm))
      (fun c => (W2_snd m c).trans (congrArg (fun X => colOf (mainAcc X 44).2) (W1_arg m c).symm))
      (fun c b h0 h1 => W2_ne m c b h0 h1)
/-- The tail call as a region. -/
def call2 (R : sProp 𝕄) : Pipeline.RegionSeg (pcfgs (F := F)) adm (R2.pdats fun c b => W2 m c b) none defs₀ 𝒱₀ (K (F := F)).L (K (F := F)).lev 1 :=
  R2.reg (fun c b => W2 m c b) (fun c b => W3 m c b) (K (F := F)).L (K (F := F)).lev (fun _ => R)
      (fun c => (W3_fst m c).trans (congrArg₂ (fun B X => (tailAcc B X 35).1) (W2_v0 m c) (W2_arg m c)).symm)
      (fun c => (W3_snd m c).trans (congrArg₂ (fun B X => colOf (tailAcc B X 35).2) (W2_v0 m c) (W2_arg m c)).symm)
      (fun c b h0 h1 => W3_ne m c b h0 h1)

/-- What the main kernel's call takes, spelt out. -/
theorem call1_pre (R : sProp 𝕄) (d : Dev nD) : (call1 m R).pre d
    = iprop(unscopedBufs d (fun b => W1 m d b) ∗ R ∗ ∃ W, owes (SparseCore.T d) (0 : CellTallies nD τ sig (HIx 1)) W) := rfl
/-- What the main kernel's call gives, spelt out. -/
theorem call1_post (R : sProp 𝕄) (d : Dev nD) : (call1 m R).post d
    = iprop(unscopedBufs d (fun b => W2 m d b) ∗ R ∗ ∃ W, owes (SparseCore.T d) (0 : CellTallies nD τ sig (HIx 1)) W) := rfl
/-- What the tail kernel's call takes, spelt out. -/
theorem call2_pre (R : sProp 𝕄) (d : Dev nD) : (call2 m R).pre d
    = iprop(unscopedBufs d (fun b => W2 m d b) ∗ R ∗ ∃ W, owes (SparseCore.T d) (0 : CellTallies nD τ sig (HIx 1)) W) := rfl
/-- What the tail kernel's call gives, spelt out. -/
theorem call2_post (R : sProp 𝕄) (d : Dev nD) : (call2 m R).post d
    = iprop(unscopedBufs d (fun b => W3 m d b) ∗ R ∗ ∃ W, owes (SparseCore.T d) (0 : CellTallies nD τ sig (HIx 1)) W) := rfl

/-- The main call, from the boundary and its ghost state. -/
theorem wp_call1 (d : Dev nD) (R : sProp 𝕄) :
    iprop(boundary (SparseCore.T d) ∗ (unscopedBufs d (fun b => W1 m d b) ∗ R ∗ ∃ W, owes (SparseCore.T d) (0 : CellTallies nD τ sig (HIx 1)) W)
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ (Prog.lift (.customCall (SparseCore.inner (Pipeline.entry 0)) ()))
          fun _ => iprop(boundary (SparseCore.T d) ∗ (unscopedBufs d (fun b => W2 m d b) ∗ R ∗ ∃ W, owes (SparseCore.T d) (0 : CellTallies nD τ sig (HIx 1)) W)) := by
  have h := Pipeline.RegionSeg.wp pcfgs adm (R1.pdats fun c b => W1 m c b) none cellOf_inj EP defs₀ 𝒱₀ (K (F := F)).L (K (F := F)).lev
    (call1 m R) d none (fun _ h => nomatch h) Prog.ret
    (fun _ => iprop(boundary (SparseCore.T d) ∗ (unscopedBufs d (fun b => W2 m d b) ∗ R ∗ ∃ W, owes (SparseCore.T d) (0 : CellTallies nD τ sig (HIx 1)) W)))
  rw [call1_pre, call1_post] at h
  have h2 := (K (F := F)).wp_liftProg (D (F := F)) 𝒱 (SparseCore.T d) Set.univ none (.op (.customCall (Pipeline.entry 0) ()) .ret)
    (fun _ => iprop(boundary (SparseCore.T d) ∗ (unscopedBufs d (fun b => W2 m d b) ∗ R ∗ ∃ W, owes (SparseCore.T d) (0 : CellTallies nD τ sig (HIx 1)) W)))
  iintro ⟨Hb, Hpre, Hl, Hg, Ht⟩
  iapply h2
  iapply h
  isplitr
  · iintro H
    simp only [wp_ret]
    iexact H
  · isplitl [Hb]; · iexact Hb
    isplitl [Hpre]; · iexact Hpre
    isplitl [Hl]; · iexact Hl
    isplitl [Hg] <;> iassumption

/-- The tail call, from the boundary and its ghost state. -/
theorem wp_call2 (d : Dev nD) (R : sProp 𝕄) :
    iprop(boundary (SparseCore.T d) ∗ (unscopedBufs d (fun b => W2 m d b) ∗ R ∗ ∃ W, owes (SparseCore.T d) (0 : CellTallies nD τ sig (HIx 1)) W)
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ (Prog.lift (.customCall (SparseCore.inner (Pipeline.entry 1)) ()))
          fun _ => iprop(boundary (SparseCore.T d) ∗ (unscopedBufs d (fun b => W3 m d b) ∗ R ∗ ∃ W, owes (SparseCore.T d) (0 : CellTallies nD τ sig (HIx 1)) W)) := by
  have h := Pipeline.RegionSeg.wp pcfgs adm (R2.pdats fun c b => W2 m c b) none cellOf_inj EP defs₀ 𝒱₀ (K (F := F)).L (K (F := F)).lev
    (call2 m R) d none (fun _ h => nomatch h) Prog.ret
    (fun _ => iprop(boundary (SparseCore.T d) ∗ (unscopedBufs d (fun b => W3 m d b) ∗ R ∗ ∃ W, owes (SparseCore.T d) (0 : CellTallies nD τ sig (HIx 1)) W)))
  rw [call2_pre, call2_post] at h
  have h2 := (K (F := F)).wp_liftProg (D (F := F)) 𝒱 (SparseCore.T d) Set.univ none (.op (.customCall (Pipeline.entry 1) ()) .ret)
    (fun _ => iprop(boundary (SparseCore.T d) ∗ (unscopedBufs d (fun b => W3 m d b) ∗ R ∗ ∃ W, owes (SparseCore.T d) (0 : CellTallies nD τ sig (HIx 1)) W)))
  iintro ⟨Hb, Hpre, Hl, Hg, Ht⟩
  iapply h2
  iapply h
  isplitr
  · iintro H
    simp only [wp_ret]
    iexact H
  · isplitl [Hb]; · iexact Hb
    isplitl [Hpre]; · iexact Hpre
    isplitl [Hl]; · iexact Hl
    isplitl [Hg] <;> iassumption

/-- A core's unscoped buffers are its unscoped references held at a valuation. -/
theorem held_eq (d : Dev nD) (W : Valuation τ sig (Elt F)) :
    (unscopedBufs d (fun b => W b) : sProp 𝕄) = StableHlo.held (SparseCore.T d) (ucRefs τ sig) W := Pipeline.unscopedBufs_held d W

/-- The array of bits taken out of a core's unscoped buffers. -/
theorem held_split (d : Dev nD) (W : Valuation τ sig (Elt F)) :
    (StableHlo.held (SparseCore.T d) (ucRefs τ sig) W : sProp 𝕄)
      = iprop(oPart d Finset.univ (W main_v0) ∗ bigSep ((ucRefs τ sig).erase (Proc.devRef .tc main_v0)) fun b => (d, b) ↦{fullShare} W b) :=
  SparseCore.bigSep_erase' (s := ucRefs τ sig) (i := Proc.devRef .tc main_v0) (by decide)

/-- And put back at the bits. -/
theorem held_join (d : Dev nD) :
    iprop(oPart d Finset.univ (bitsBuf (F := F) d) ∗ bigSep ((ucRefs τ sig).erase (Proc.devRef .tc main_v0)) fun b => (d, b) ↦{fullShare} W0 m d b)
      ⊢ (unscopedBufs d (fun b => W1 m d b) : sProp 𝕄) := by
  rw [held_eq, held_split]
  refine BIClass.sep_mono (Entails.of_eq (by rw [W1_v0])) (Entails.of_eq (bigSep_congr fun b hb => ?_))
  rw [show W1 m d b = W0 m d b from Function.update_of_ne (Finset.ne_of_mem_erase hb) _ _]

/-- What the call takes is the array of bits at the launch's contents. -/
theorem st_eq (d : Dev nD) : (bigSep Finset.univ fun c : Fin ((K (F := F)).nCore 0) => (P m).st 0 d c) = oPart d Finset.univ (m (oLoc d)) := (whole_cores d _).symm
/-- What the call gives is the array at the bits. -/
theorem dn_eq (d : Dev nD) : (bigSep Finset.univ fun c : Fin ((K (F := F)).nCore 0) => (P m).dn 0 d c) = oPart d Finset.univ (bitsBuf (F := F) d) := (whole_cores d _).symm

/-- Past its last call a core's thread owes nothing: its state is what it owes, and the rest. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After its call a core's state is what it owes and the rest. -/
theorem tcSt_out (d : Dev nD) : ((K (F := F)).tcSt EH d 1 : sProp 𝕄)
    ⊢ iprop((∃ W, owes (SparseCore.T d) (0 : CellTallies nD τ sig (HIx 1)) W) ∗ tcRest d) := by
  unfold SparseCore.Cfg.tcSt tcRest
  rw [(K (F := F)).Otc_end d (le_refl 1)]
  iintro ⟨⟨%W, -, HO⟩, Hr⟩
  isplitl [HO]
  · iexists W; iexact HO
  · iexact Hr

/-- The same, the call's number written as a successor. -/
theorem tcSt_out' (d : Dev nD) : ((K (F := F)).tcSt EH d ((0 : Fin 1).val + 1) : sProp 𝕄)
    ⊢ iprop((∃ W, owes (SparseCore.T d) (0 : CellTallies nD τ sig (HIx 1)) W) ∗ tcRest d) := tcSt_out d

/-- What it owes and the rest are a core's state after its call. -/
theorem tcSt_in (d : Dev nD) : iprop((∃ W, owes (SparseCore.T d) (0 : CellTallies nD τ sig (HIx 1)) W) ∗ tcRest d)
    ⊢ ((K (F := F)).tcSt EH d 1 : sProp 𝕄) := by
  unfold SparseCore.Cfg.tcSt tcRest
  rw [(K (F := F)).Otc_end d (le_refl 1)]
  iintro ⟨⟨%W, HO⟩, Hr⟩
  isplitl [HO]
  · iexists W
    isplitr
    · ipureintro; exact wbelow d W
    · iexact HO
  · iexact Hr

/-- The main program runs its three calls and ends with the kernel's results. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G FIN
  have hg : ∀ Φ : Fin 2 → sProp 𝕄, bigSep Finset.univ Φ = iprop(Φ 0 ∗ Φ 1) := fun Φ => bigSep_univ_two (M := 𝕄) Φ
  have hu : (unscopedBufs d (fun b => m ((SparseCore.T d).loc b)) : sProp 𝕄) = StableHlo.held (SparseCore.T d) (ucRefs τ sig) (W0 m d) := held_eq d (W0 m d)
  rw [hu, held_split, hg, hg]
  simp only [main, fn_where.body, wp_bind]
  iintro ⟨#Hctx, Hst, ⟨Hb, ⟨Ho, Hrest⟩, Hts, -⟩, ⟨Hg0, Hg1⟩, ⟨Ht0, Ht1⟩⟩
  ihave #Hlev := (SparseCore.Cfg.ctx_levAts κ) $$ Hctx
  iapply ((K (F := F)).wp_run (D (F := F)) 𝒱 (EH := EH) (P := P m) κ d 0) $$ [Hst Ho Hrest Hb Hts Hg0 Hg1 Ht0 Ht1]
  isplitr; · iexact Hctx
  isplitl [Hst]; · iexact Hst
  isplitl [Ho]
  · rw [st_eq]
    iexact Ho
  iintro ⟨Hst, Hdn⟩
  ihave Hdn := (Entails.of_eq (dn_eq m d)) $$ Hdn
  ihave Hu := (held_join m d) $$ [Hdn Hrest]
  · isplitl [Hdn] <;> iassumption
  ihave Hst := (tcSt_out' d) $$ Hst
  icases Hst with ⟨HO, Hst⟩
  iapply (wp_wand_r frame _ _)
  isplitl [Hb Hu HO Hst Hg0 Ht0]
  · iapply (wp_call1 m d (tcRest d))
    isplitl [Hb]; · iexact Hb
    isplitl [Hu HO Hst]
    · isplitl [Hu]; · iexact Hu
      isplitl [Hst] <;> iassumption
    isplitr; · iexact Hlev
    isplitl [Hg0] <;> iassumption
  iintro %_ ⟨Hb, Hu, Hst, HO⟩
  iapply (wp_wand_r frame _ _)
  isplitl [Hb Hu HO Hst Hg1 Ht1]
  · iapply (wp_call2 m d (tcRest d))
    isplitl [Hb]; · iexact Hb
    isplitl [Hu HO Hst]
    · isplitl [Hu]; · iexact Hu
      isplitl [Hst] <;> iassumption
    isplitr; · iexact Hlev
    isplitl [Hg1] <;> iassumption
  iintro %_ ⟨Hb, Hu, Hst, HO⟩
  ihave Hu := (Entails.of_eq (held_eq d (W3 m d))) $$ Hu
  iapply (StableHlo.wp_hlo_within 𝒱 (SparseCore.T d) none Set.univ (op := opCmp) (S := ucRefs τ sig) (Pipeline.sub_ucRefs _ (StableHlo.binary_bufs_sub _ _ _ _ _ _ _))) $$ [Hb Hu]
  · isplitl [Hb] <;> iassumption
  iintro ⟨Hb, Hu⟩
  simp only [wp_ret]
  imodintro
  iapply (StableHlo.wp_hlo_within 𝒱 (SparseCore.T d) none Set.univ (op := opSel) (S := ucRefs τ sig) (Pipeline.sub_ucRefs _ (StableHlo.ternary_bufs_sub _ _ _ _ _ _ _ _ _))) $$ [Hb Hu]
  · isplitl [Hb] <;> iassumption
  iintro ⟨Hb, Hu⟩
  simp only [wp_ret, wp_pure]
  imodintro
  imodintro
  iapply (StableHlo.wp_hlo_within 𝒱 (SparseCore.T d) none Set.univ (op := opRow) (S := ucRefs τ sig) (Pipeline.sub_ucRefs _ (StableHlo.reshape_bufs_sub _ _ _ _ _ _))) $$ [Hb Hu]
  · isplitl [Hb] <;> iassumption
  iintro ⟨Hb, Hu⟩
  simp only [wp_ret, wp_pure]
  imodintro
  imodintro
  isplitl [Hst HO]
  · iapply (tcSt_in d)
    isplitl [HO] <;> iassumption
  isplitl [Hu]
  · iapply (Entails.of_eq (held_eq d (W6 m d)).symm)
    iexact Hu
  isplitl [Hb] <;> iassumption

/-- What the ending memory holds on a core: the result, and the argument unchanged. -/
def fq (d : Dev nD) (s' : Phys nD τ sig (Elt F)) : Prop :=
  s'.mem.mem ((SparseCore.T d).loc main_v5) = kernelOut (logits m d) ∧ s'.mem.mem ((SparseCore.T d).loc main_arg0) = logits m d

/-- One buffer out of a core's unscoped ones. -/
theorem pick (d : Dev nD) (W : Valuation τ sig (Elt F)) (b : Ref sig .tc) (hb : b.isScoped = false) :
    (unscopedBufs d (fun b => W b) : sProp 𝕄) ⊢ iprop(((SparseCore.T d).loc b ↦{fullShare} W b) ∗ True) := by
  have h := BI.bigSep_erase (M := 𝕄) (s := Finset.univ.filter fun b : Ref sig .tc => ¬ b.isScoped) (i := b) (by simp [hb])
    (Φ := fun b => ((SparseCore.T d).loc b) ↦{fullShare} W b)
  unfold unscopedBufs
  refine (Entails.of_eq h).trans (BIClass.sep_mono (BI.Entails.refl _) ?_)
  iintro -; itrivial

set_option maxRecDepth 16384 in
/-- The buffers held at the end say what the final memory contains. -/
theorem hfin (d : Dev nD) (s' : Phys nD τ sig (Elt F)) : iprop(FIN m d ∗ SI s') ⊢ (⌜fq m d s'⌝ : sProp 𝕄) := by
  unfold FIN
  have key : ∀ b : Ref sig .tc, b.isScoped = false → iprop((unscopedBufs d fun b => W6 m d b) ∗ SI s') ⊢ (⌜s'.mem.mem ((SparseCore.T d).loc b) = W6 m d b⌝ : sProp 𝕄) := by
    intro b hb
    iintro ⟨Hu, HSI⟩
    ihave Hp := (pick d (W6 m d) b hb) $$ Hu
    icases Hp with ⟨Hp, -⟩
    ihave H := (SI_pointsTo_agree (st := s') (ℓ := (SparseCore.T d).loc b) (I := Finset.univ) (q := fullShare) (f := W6 m d b)) $$ [HSI Hp]
    · isplitl [HSI] <;> iassumption
    icases H with %h
    ipureintro; exact funext fun i => h i (Finset.mem_univ i)
  have h5 := key main_v5 rfl
  have h0 := key main_arg0 rfl
  rw [W6_out] at h5; rw [W6_arg] at h0
  iintro H
  ihave H := (persistent_entails_right h5) $$ H
  icases H with ⟨%e5, H⟩
  ihave H := h0 $$ H
  icases H with %e0
  ipureintro; exact ⟨e5, e0⟩

/-- What a run ends with. -/
def QC : PUnit × MemSt nD τ sig (Elt F) → Prop := fun r =>
  (∀ c : Dev nD, r.2.mem ((SparseCore.T c).loc main_v5) = kernelOut (logits m c) ∧ r.2.mem ((SparseCore.T c).loc main_arg0) = logits m c) ∧ r.2.sem = fun _ => 0

/-- Every run of the program ends with the kernel's result, the argument unchanged and every semaphore at zero. -/
theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.KernelIdeal

end
-- ==== Proof.RefFrame.lean ====
/-
  The reference runs: host operations only, its argument unchanged.
-/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.Proof

open Idealize.ShloMosaic Idealize.SL.Sem

/-- The program's facts, as generated. -/
instance : Cert.ReferenceIdeal.Facts := Cert.ReferenceIdeal.Gen.facts

set_option maxHeartbeats 1600000 in
/-- The reference runs, changes no argument and leaves every semaphore at zero. -/
theorem frame_RI : Cert.quiescent_ReferenceIdeal := by
  intro m' g' _
  hlo_run
  · exact fun _ => trivial
  · exact sem_eq_zero_of_no_sems (sig := Cert.ReferenceIdeal.sig) (by decide) _

end Cert.Proof

end
-- ==== Proof.RefText.lean ====
/-
  The reference's value as one function of the logits, in the order its printed operations compute it: the counters, their
  random bits, the scores, and the arg max of each row.
-/
module

public import proofs.«01_k».proof.Defs
public import proofs.«01_k».proof.Proof.Cipher
public import proofs.«01_k».proof.Proof.Gen.ReferenceIdeal

@[expose] public section

noncomputable section

namespace Cert.Proof

open Idealize.ShloMosaic
open Cert.ReferenceIdeal

/-- The program's facts, as generated. -/
instance refFacts : Cert.ReferenceIdeal.Facts := Cert.ReferenceIdeal.Gen.facts

variable {F : FTy → Type} [FloatOps F]

/-- One word everywhere. -/
def kst (k : BitVec 32) : IVec S64x1000000 32 := broadcastInDim S64x1000000 ![] Facts₀.bcast_S_S64x1000000 (constantI S_ 32 k)
/-- One float everywhere. -/
def kstf (k : BitVec 32) : FVec F S64x1000000 .f32 :=
  broadcastInDim S64x1000000 ![] Facts₀.bcast_S_S64x1000000 (constant (F := F) S_ .f32 k)

/-- One round as the reference writes it, then `K` at the two words. -/
def refRound (a b : BitVec 32) (x0 x1 : IVec S64x1000000 32) (K : IVec S64x1000000 32 → IVec S64x1000000 32 → IVec S64x1000000 32) :
    IVec S64x1000000 32 :=
  K (addi x0 x1) (xori (addi x0 x1) (ori (Host.shli x1 (kst a)) (Host.shrui x1 (kst b))))
/-- One key injection, then `K`. -/
def refInject (a b : BitVec 32) (x0 x1 : IVec S64x1000000 32) (K : IVec S64x1000000 32 → IVec S64x1000000 32 → IVec S64x1000000 32) :
    IVec S64x1000000 32 :=
  K (addi x0 (kst a)) (addi x1 (kst b))
/-- An even group of four rounds. -/
def refGroupA (x0 x1 : IVec S64x1000000 32) (K : IVec S64x1000000 32 → IVec S64x1000000 32 → IVec S64x1000000 32) :
    IVec S64x1000000 32 :=
  refRound 13#32 19#32 x0 x1 fun x0 x1 => refRound 15#32 17#32 x0 x1 fun x0 x1 => refRound 26#32 6#32 x0 x1 fun x0 x1 =>
    refRound 6#32 26#32 x0 x1 K
/-- An odd group of four rounds. -/
def refGroupB (x0 x1 : IVec S64x1000000 32) (K : IVec S64x1000000 32 → IVec S64x1000000 32 → IVec S64x1000000 32) :
    IVec S64x1000000 32 :=
  refRound 17#32 15#32 x0 x1 fun x0 x1 => refRound 29#32 3#32 x0 x1 fun x0 x1 => refRound 16#32 16#32 x0 x1 fun x0 x1 =>
    refRound 24#32 8#32 x0 x1 K

/-- The random bits of the counters. -/
def refBits (flat : IVec S64x1000000 32) : IVec S64x1000000 32 :=
  refGroupA (addi (kst 0#32) (kst 0#32)) (addi flat (kst 42#32)) fun x0 x1 =>
  refInject 42#32 466689009#32 x0 x1 fun x0 x1 => refGroupB x0 x1 fun x0 x1 =>
  refInject 466689008#32 2#32 x0 x1 fun x0 x1 => refGroupA x0 x1 fun x0 x1 =>
  refInject 0#32 45#32 x0 x1 fun x0 x1 => refGroupB x0 x1 fun x0 x1 =>
  refInject 42#32 466689012#32 x0 x1 fun x0 x1 => refGroupA x0 x1 fun x0 x1 =>
  refInject 466689008#32 5#32 x0 x1 fun x0 x1 => xori x0 x1

/-- The counters: row times the number of columns, plus the column. -/
def refFlat : IVec S64x1000000 32 := addi (muli (iotaInDim S64x1000000 32 0) (kst 1000000#32)) (iotaInDim S64x1000000 32 1)

/-- The uniform draws of the bits. -/
def refUnit (bits : IVec S64x1000000 32) : FVec F S64x1000000 .f32 :=
  maximumf (kstf 0x00800000#32)
    (addf (mulf (subf (bitcastToFloat .f32 (ori (Host.shrui bits (kst 9#32)) (kst 1065353216#32))) (kstf 0x3F800000#32))
      (kstf 0x3F800000#32)) (kstf 0x00800000#32))

/-- The scores: the Gumbel variates plus the logits. -/
def refScore (bits : IVec S64x1000000 32) (X : FVec F S64x1000000 .f32) : FVec F S64x1000000 .f32 :=
  addf (Host.negf (Host.log (Host.negf (Host.log (refUnit bits))))) X

/-- The arg max of every row. -/
def refOut (s : FVec F S64x1000000 .f32) : IVec S64 32 := fun j =>
  (Host.argReduce reducer_argmax_f32_i32 s (iotaInDim S64x1000000 32 1) (constant (F := F) S_ .f32 0xFF800000#32)
    (constantI S_ 32 0#32) Facts₀.reducesTo_S64x1000000_S64_d1 Facts₀.h_S_ j).2

end Cert.Proof

end
-- ==== Proof.RefRun.lean ====
/-
  The reference's run: it ends with its arg max in its result, its argument unchanged.
-/
module

public import proofs.«01_k».proof.Proof.RefText
public import Idealize.ShloMosaic.Lib.Claim
public import Idealize.ShloMosaic.Lib.StableHlo.RunRead

@[expose] public section

set_option maxRecDepth 16384

noncomputable section

namespace Cert.Proof

open Idealize.ShloMosaic Idealize.SL.Sem
open Cert.ReferenceIdeal

set_option maxHeartbeats 16000000 in
/-- Every run of the reference ends with the arg max of the scores, the logits unchanged. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v189)
        = refOut (F := Ideal) (refScore (refBits refFlat) (m ((c.tc : Thread nD τ).loc main_arg0)))
      ∧ r.2.mem ((c.tc : Thread nD τ).loc main_arg0) = m ((c.tc : Thread nD τ).loc main_arg0)) := by
  refine θ_run_mono (Idealize.ShloMosaic.StableHlo.run_hlo _ _ (by hlo_seq) (by decide) (by decide) (by simp)
      (by intro _ h; (repeat (cases h with | head => rfl | tail _ h => ?_)); exact nomatch h) _ _) ?_
  intro r hr c
  constructor
  · have h := hr c main_v189
    rw [h]
    clear h hr
    after_reads_simp
    rfl
  · have h := hr c main_arg0
    rw [h]
    clear h hr
    after_reads_simp

end Cert.Proof

end
-- ==== Proof.Win.lean ====
/-
  The first place where a sequence of extended reals is greatest, as a property of a value and a position that a running
  best keeps: over one more column, over one more block of columns, and over the lanes of a block together.
-/
module

public import Mathlib.Data.EReal.Basic
public import Mathlib.Data.List.Basic

@[expose] public section

namespace Cert.Proof

/-- A fold by an operation that picks one of its two operands, the one before the other in an order, ends with a member
    of the list (or its start) before all of them. -/
theorem fold_pick {α : Type} (g : α → α → α) (R : α → α → Prop) (hr : ∀ a, R a a) (ht : ∀ a b c, R a b → R b c → R a c)
    (hg : ∀ a b, (g a b = a ∨ g a b = b) ∧ R (g a b) a ∧ R (g a b) b) :
    ∀ (l : List α) (a : α), (l.foldl g a = a ∨ l.foldl g a ∈ l) ∧ R (l.foldl g a) a ∧ ∀ x ∈ l, R (l.foldl g a) x
  | [], a => ⟨.inl rfl, hr a, fun _ h => nomatch h⟩
  | b :: l, a => by
    obtain ⟨h1, h2, h3⟩ := fold_pick g R hr ht hg l (g a b)
    obtain ⟨g1, g2, g3⟩ := hg a b
    refine ⟨?_, ht _ _ _ h2 g2, fun x hx => ?_⟩
    · rcases h1 with h1 | h1
      · rcases g1 with g1 | g1
        · exact .inl (h1.trans g1)
        · exact .inr (List.mem_cons.mpr (.inl (h1.trans g1)))
      · exact .inr (List.mem_cons_of_mem _ h1)
    · rcases List.mem_cons.mp hx with rfl | hx
      · exact ht _ _ _ h2 g3
      · exact h3 x hx

/-- `v` is the greatest of the scores `f` at the columns in `S`, and `i` names the first column where they reach it; with no
    column, `v` is least. -/
def Win (f : ℕ → EReal) (e : ℕ → BitVec 32) (S : ℕ → Prop) (v : EReal) (i : BitVec 32) : Prop :=
  (∀ c, S c → f c ≤ v) ∧ ((v = ⊥ ∧ ∀ c, ¬ S c) ∨ ∃ c, S c ∧ f c = v ∧ i = e c ∧ ∀ c', S c' → f c' = v → c ≤ c')

variable {f : ℕ → EReal} {e : ℕ → BitVec 32}

/-- Nothing yet. -/
theorem Win.empty (S : ℕ → Prop) (h : ∀ c, ¬ S c) (i : BitVec 32) : Win f e S ⊥ i :=
  ⟨fun c hc => absurd hc (h c), .inl ⟨rfl, h⟩⟩

/-- One column. -/
theorem Win.single (c : ℕ) : Win f e (fun c' => c' = c) (f c) (e c) :=
  ⟨fun c' h => by rw [h], .inr ⟨c, rfl, rfl, rfl, fun c' h _ => h ▸ le_rfl⟩⟩

/-- The same columns otherwise described. -/
theorem Win.congr {S T : ℕ → Prop} {v : EReal} {i : BitVec 32} (h : ∀ c, S c ↔ T c) (w : Win f e S v i) : Win f e T v i := by
  have : S = T := funext fun c => propext (h c)
  exact this ▸ w

/-- The better of two, the earlier at a tie, is the best of both's columns when the second's come later. -/
theorem Win.step {S T : ℕ → Prop} {v w : EReal} {i j : BitVec 32} (hlt : ∀ c c', S c → T c' → c < c') (hf : ∀ c, T c → f c ≠ ⊥)
    (hp : Win f e S v i) (hq : Win f e T w j) :
    Win f e (fun c => S c ∨ T c) (if v < w then w else v) (if v < w then j else i) := by
  obtain ⟨p1, p2⟩ := hp
  obtain ⟨q1, q2⟩ := hq
  by_cases hvw : v < w
  · rw [if_pos hvw, if_pos hvw]
    refine ⟨fun c hc => hc.elim (fun h => (p1 c h).trans hvw.le) (q1 c), .inr ?_⟩
    rcases q2 with ⟨h, -⟩ | ⟨c, hc, hfc, hj, hfirst⟩
    · exact absurd hvw (by rw [h]; exact not_lt_bot)
    refine ⟨c, .inr hc, hfc, hj, fun c' hc' he => ?_⟩
    rcases hc' with hc' | hc'
    · exact absurd (he ▸ p1 c' hc') (not_le.mpr hvw)
    · exact hfirst c' hc' he
  · rw [if_neg hvw, if_neg hvw]
    have hwv : w ≤ v := not_lt.mp hvw
    refine ⟨fun c hc => hc.elim (p1 c) fun h => (q1 c h).trans hwv, ?_⟩
    rcases p2 with ⟨hv, hS⟩ | ⟨c, hc, hfc, hi, hfirst⟩
    · refine .inl ⟨hv, fun c hc => hc.elim (hS c) fun h => hf c h ?_⟩
      exact le_bot_iff.mp (hv ▸ (q1 c h).trans hwv)
    · refine .inr ⟨c, .inl hc, hfc, hi, fun c' hc' he => ?_⟩
      rcases hc' with hc' | hc'
      · exact hfirst c' hc' he
      · exact (hlt c c' hc hc').le

/-- The greatest value over the lanes, with the least position of the lanes that reach it, is the best of all their columns. -/
theorem Win.lanes {ι : Type} {S : ι → ℕ → Prop} {v : ι → EReal} {i : ι → BitVec 32} (top : BitVec 32) (h : ∀ k, Win f e (S k) (v k) (i k))
    (hf : ∀ k c, S k c → f c ≠ ⊥) (he : ∀ k c, S k c → (e c).toInt < top.toInt)
    (hmono : ∀ k k' c c', S k c → S k' c' → (e c).toInt ≤ (e c').toInt → c ≤ c')
    {M : EReal} (hM : M = ⊥ ∨ ∃ k, M = v k) (hM' : ∀ k, v k ≤ M)
    {r : BitVec 32} (hr : r = top ∨ ∃ k, r = if v k = M then i k else top)
    (hr' : ∀ k, r.toInt ≤ (if v k = M then i k else top).toInt) : Win f e (fun c => ∃ k, S k c) M r := by
  refine ⟨fun c ⟨k, hc⟩ => ((h k).1 c hc).trans (hM' k), ?_⟩
  by_cases hb : M = ⊥
  · refine .inl ⟨hb, fun c ⟨k, hc⟩ => hf k c hc ?_⟩
    exact le_bot_iff.mp (hb ▸ ((h k).1 c hc).trans (hM' k))
  have second : ∀ k, v k = M → ∃ c, S k c ∧ f c = M ∧ i k = e c ∧ ∀ c', S k c' → f c' = M → c ≤ c' := by
    intro k hk
    rcases (h k).2 with ⟨h1, -⟩ | h2
    · exact absurd (hk.symm.trans h1) hb
    · rw [hk] at h2; exact h2
  obtain ⟨k, hk⟩ := hM.resolve_left hb
  obtain ⟨c0, hc0, -, hi0, -⟩ := second k hk.symm
  have hlt : r.toInt < top.toInt := by
    have h1 := hr' k
    rw [if_pos hk.symm, hi0] at h1
    exact lt_of_le_of_lt h1 (he k c0 hc0)
  have hne : r ≠ top := fun h => by rw [h] at hlt; exact lt_irrefl _ hlt
  obtain ⟨k1, hk1⟩ := hr.resolve_left hne
  by_cases hv1 : v k1 = M
  · rw [if_pos hv1] at hk1
    obtain ⟨c1, hc1, hf1, hi1, -⟩ := second k1 hv1
    refine .inr ⟨c1, ⟨k1, hc1⟩, hf1, hk1.trans hi1, fun c' ⟨k2, hc2⟩ hf2 => ?_⟩
    have hv2 : v k2 = M := le_antisymm (hM' k2) (hf2 ▸ (h k2).1 c' hc2)
    obtain ⟨c3, hc3, -, hi3, hfirst⟩ := second k2 hv2
    have h2 := hr' k2
    rw [if_pos hv2, hi3, hk1.trans hi1] at h2
    exact (hmono k1 k2 c1 c3 hc1 hc3 h2).trans (hfirst c' hc2 hf2)
  · rw [if_neg hv1] at hk1
    exact absurd hk1 hne

/-- Two first greatest columns of the same scores are one. -/
theorem first_unique {S : ℕ → Prop} {c c' : ℕ} (hc : S c) (hc' : S c') (h : ∀ d, S d → f d ≤ f c) (h' : ∀ d, S d → f d ≤ f c')
    (hm : ∀ d, S d → f d = f c → c ≤ d) (hm' : ∀ d, S d → f d = f c' → c' ≤ d) : c = c' := by
  have heq : f c = f c' := le_antisymm (h' c hc) (h c' hc')
  exact le_antisymm (hm c' hc' heq.symm) (hm' c hc heq)

end Cert.Proof

end
-- ==== Proof.Finite.lean ====
/-
  What the precondition says of the logits.
-/
module

public import proofs.«01_k».proof.Pre_finite
public import proofs.«01_k».proof.Proof.Win
public import Idealize.ShloMosaic.PureOps.Ideal.Laws

@[expose] public section

noncomputable section

namespace Cert.Proof

open Idealize.ShloMosaic Cert.Pre_finite

/-- The shapes the precondition's operations ask for. -/
instance preFacts : Cert.Pre_finite.Facts where
  bcast_S_S64x1000000 := ⟨by decide, by decide⟩
  reducesTo_S64x1000000_S_d0_1 := by decide
  h_S_ := by decide

/-- One is kept. -/
def Kept (a b : BitVec 1) : Prop := a = 1#1 → b = 1#1

/-- The conjunction is one of its operands, and one only where both are. -/
theorem andi_pick (a b : BitVec 1) : (IntOp.andi a b = a ∨ IntOp.andi a b = b) ∧ Kept (IntOp.andi a b) a ∧ Kept (IntOp.andi a b) b := by
  unfold Kept
  revert a b
  decide

/-- A conjunction over a list is one only where every entry is. -/
theorem andi_all (l : List (BitVec 1)) (a : BitVec 1) (h : l.foldl IntOp.andi a = 1#1) (b : BitVec 1) (hb : b ∈ l) : b = 1#1 :=
  (fold_pick IntOp.andi Kept (fun _ h => h) (fun _ _ _ h i k => i (h k)) andi_pick l a).2.2 b hb h

/-- The pattern the precondition compares with is the greatest value. -/
theorem top_val : Ideal.ofBits .f32 0x7F800000#32 = ⊤ := by
  simp [Ideal.ofBits, Ideal.ieee]

/-- A conjunction over a reduction's fibre is one only where every entry in it is. -/
theorem reduce_all {s t u : Shape} {axes : List (Fin s.rank)} (x : IVec s 1) (v : IVec u 1) (h : s.ReducesTo axes t) (hu : 0 < u.numel)
    (j : t.Idx) (e : Host.reduce IntOp.andi x v h hu j = 1#1) (i : s.Idx) (hi : h.drop i = j) : x i = 1#1 := by
  rw [Host.reduce_eq_foldl, ← List.foldl_map] at e
  refine andi_all _ _ e _ (List.mem_map.mpr ⟨i, List.mem_filter.mpr ⟨List.mem_map.mpr ⟨s.rowMajor i, List.mem_finRange _, ?_⟩, ?_⟩, rfl⟩)
  · exact Equiv.symm_apply_apply _ _
  · exact decide_eq_true hi

/-- Under the precondition no logit is -∞. -/
theorem finite_ne_bot (X : FVec Ideal S64x1000000 .f32) (h : Cert.Pre_finite.fn (F := Ideal) X = fun _ => 1#1) (i : S64x1000000.Idx) :
    (X i : EReal) ≠ ⊥ := by
  intro hb
  have e := reduce_all _ _ _ _ (fun a => a.elim0) (congrFun h fun a => a.elim0) i (funext fun a => a.elim0)
  have e' : BitVec.ofBool (decide (max (X i : EReal) (-(X i : EReal)) < Ideal.ofBits .f32 0x7F800000#32)) = 1#1 := e
  rw [hb, top_val] at e'
  revert e'
  simp

end Cert.Proof

end
-- ==== Proof.Score.lean ====
/-
  The Gumbel variate of 32 bits over the extended reals: a real number, and the one the reference computes.
-/
module

public import proofs.«01_k».proof.Proof.CipherLanes
public import proofs.«01_k».proof.Proof.RefText
public import Idealize.ShloMosaic.PureOps.Ideal.Laws
public import Idealize.ShloMosaic.Lib.IdealHost

@[expose] public section

noncomputable section

namespace Cert.Proof

open Idealize.ShloMosaic

/-- The Gumbel variate of one word of bits. -/
def gum (b : BitVec 32) : EReal := gumbel (F := Ideal) (s := Lane) (fun _ => b) (fun _ => 0)

/-- A lane of the variates is the variate of its bits. -/
theorem gumbel_apply {s : Shape} (bits : IVec s 32) (j : s.Idx) : gumbel (F := Ideal) bits j = gum (bits j) := rfl

/-- The pattern whose top 23 mantissa bits are the word's. -/
def pat (b : BitVec 32) : BitVec 32 := (b >>> (9#32)) ||| 1065353216#32

/-- That pattern as a number: the exponent of one, and the mantissa. -/
theorem pat_toNat (b : BitVec 32) : (pat b).toNat = 2 ^ 23 * 127 + b.toNat / 512 := by
  have hb : b.toNat < 2 ^ 32 := b.isLt
  have h : b.toNat / 512 < 2 ^ 23 := by omega
  rw [Nat.two_pow_add_eq_or_of_lt h]
  unfold pat
  rw [BitVec.toNat_or, BitVec.ushiftRight_eq', BitVec.toNat_ushiftRight, Nat.shiftRight_eq_div_pow]
  exact Nat.or_comm _ _

/-- The float of that pattern is one plus a fraction below one. -/
theorem pat_val (b : BitVec 32) : Ideal.ofBits .f32 (pat b) = ((1 + (b.toNat / 512 : ℕ) / 2 ^ 23 : ℝ) : EReal) := by
  have hb : b.toNat < 2 ^ 32 := b.isLt
  have h1 : ((pat b).extractLsb' (8 + 23) 1 == 1#1) = false := by
    have : (pat b).extractLsb' (8 + 23) 1 = 0#1 := BitVec.eq_of_toNat_eq (by
      rw [BitVec.extractLsb'_toNat, pat_toNat, Nat.shiftRight_eq_div_pow]; show _ = 0; omega)
    rw [this]; rfl
  have h2 : ((pat b).extractLsb' 23 8).toNat = 127 := by
    rw [BitVec.extractLsb'_toNat, pat_toNat, Nat.shiftRight_eq_div_pow]; omega
  have h3 : ((pat b).extractLsb' 0 23).toNat = b.toNat / 512 := by
    rw [BitVec.extractLsb'_toNat, pat_toNat, Nat.shiftRight_eq_div_pow]; omega
  unfold Ideal.ofBits Ideal.ieee
  simp only [h1, h2, h3]
  norm_num
  norm_cast
  push_cast
  ring

/-- The least positive normal number. -/
theorem tiny_val : Ideal.ofBits .f32 0x00800000#32 = (((2 : ℝ) ^ (-126 : ℤ) : ℝ) : EReal) := by
  simp [Ideal.ofBits, Ideal.ieee, -EReal.coe_mul]; norm_num

/-- The logarithm of a positive real. -/
theorem log_pos (x : ℝ) (h : 0 < x) : Ideal.log (x : EReal) = (Real.log x : EReal) := by
  show (if x ≤ 0 then (⊥ : EReal) else (Real.log x : EReal)) = _
  rw [if_neg (not_le.mpr h)]

/-- The uniform draw of a word. -/
def uni (b : BitVec 32) : ℝ := (b.toNat / 512 : ℕ) / 2 ^ 23 + (2 : ℝ) ^ (-126 : ℤ)

/-- The uniform draw is positive. -/
theorem uni_pos (b : BitVec 32) : 0 < uni b := by
  unfold uni; positivity

/-- The uniform draw is below one. -/
theorem uni_lt (b : BitVec 32) : uni b < 1 := by
  have hb : b.toNat < 2 ^ 32 := b.isLt
  have h : b.toNat / 512 ≤ 2 ^ 23 - 1 := by omega
  have h' : ((b.toNat / 512 : ℕ) : ℝ) ≤ 2 ^ 23 - 1 := by
    have := (Nat.cast_le (α := ℝ)).mpr h
    push_cast at this
    norm_num at this ⊢
    linarith
  have h2 : (2 : ℝ) ^ (-126 : ℤ) < 1 / 2 ^ 23 := by norm_num
  unfold uni
  have h3 : ((b.toNat / 512 : ℕ) : ℝ) / 2 ^ 23 ≤ (2 ^ 23 - 1) / 2 ^ 23 := by gcongr
  have h4 : ((2 : ℝ) ^ 23 - 1) / 2 ^ 23 = 1 - 1 / 2 ^ 23 := by norm_num
  linarith

/-- The fraction of the pattern. -/
theorem frac_val (b : BitVec 32) : Ideal.ofBits .f32 (pat b) - 1 = (((b.toNat / 512 : ℕ) / 2 ^ 23 : ℝ) : EReal) := by
  rw [pat_val, show (1 : EReal) = ((1 : ℝ) : EReal) from rfl, ← EReal.coe_sub]
  congr 1; ring

/-- The kernel's draw is that number. -/
theorem unit_val (b : BitVec 32) : (Ideal.ofBits .f32 (pat b) - 1) + Ideal.ofBits .f32 0x00800000#32 = (uni b : EReal) := by
  rw [frac_val, tiny_val, ← EReal.coe_add]; rfl

/-- The reference's draw is the same number. -/
theorem refUnit_val (b : BitVec 32) :
    max (Ideal.ofBits .f32 0x00800000#32) ((Ideal.ofBits .f32 (pat b) - 1) * 1 + Ideal.ofBits .f32 0x00800000#32) = (uni b : EReal) := by
  rw [mul_one, unit_val, max_eq_right]
  rw [tiny_val]
  refine EReal.coe_le_coe_iff.mpr ?_
  unfold uni
  have : (0 : ℝ) ≤ ((b.toNat / 512 : ℕ) : ℝ) / 2 ^ 23 := by positivity
  linarith

/-- Zero minus a real is its negative. -/
theorem zero_sub_coe (x : ℝ) : (0 : EReal) - (x : EReal) = ((-x : ℝ) : EReal) := by rw [zero_sub, EReal.coe_neg]

/-- The Gumbel variate is a real number. -/
theorem gum_val (b : BitVec 32) : gum b = ((-Real.log (-Real.log (uni b)) : ℝ) : EReal) := by
  have hl : 0 < -Real.log (uni b) := by
    have := Real.log_neg (uni_pos b) (uni_lt b); linarith
  show Ideal.ofBits .f32 0x00000000#32 - Ideal.log (Ideal.ofBits .f32 0x00000000#32
    - Ideal.log ((Ideal.ofBits .f32 (pat b) - Ideal.ofBits .f32 0x3F800000#32) + Ideal.ofBits .f32 0x00800000#32)) = _
  rw [Ideal.ofBits_zero_f32, Ideal.ofBits_one_f32, unit_val, log_pos _ (uni_pos b), zero_sub_coe, log_pos _ hl,
    zero_sub_coe]

open Cert.ReferenceIdeal

/-- A word everywhere is a broadcast. -/
theorem kst_eq (k : BitVec 32) : kst k = broadcast S64x1000000 k := rfl

/-- A reference round by amounts below the width is a round. -/
theorem refRound_eq (a b : BitVec 32) (ha : a.toNat < 32) (hb : b.toNat < 32) : refRound a b = round a b := by
  funext x0 x1 K
  have h : xori (addi x0 x1) (ori (Host.shli x1 (kst a)) (Host.shrui x1 (kst b))) = rotx a b x1 (addi x0 x1) := by
    funext j
    show (x0 j + x1 j) ^^^ ((if a.toNat < 32 then x1 j <<< a else _) ||| (if b.toNat < 32 then x1 j >>> b else _))
      = ((if a.toNat < 32 then x1 j <<< a else _) ||| (if b.toNat < 32 then x1 j >>> b else _)) ^^^ (x0 j + x1 j)
    rw [if_pos ha, if_pos hb, if_pos ha, if_pos hb, BitVec.xor_comm]
  unfold refRound round
  rw [h]

/-- A reference injection is an injection. -/
theorem refInject_eq (a b : BitVec 32) : refInject a b = inject a b := rfl

/-- The reference's even group is the kernel's. -/
theorem refGroupA_eq : refGroupA = groupA := by
  funext x0 x1 K
  unfold refGroupA groupA tailA
  rw [refRound_eq 13#32 19#32 (by decide) (by decide), refRound_eq 15#32 17#32 (by decide) (by decide),
    refRound_eq 26#32 6#32 (by decide) (by decide), refRound_eq 6#32 26#32 (by decide) (by decide)]

/-- So is the odd one. -/
theorem refGroupB_eq : refGroupB = groupB := by
  funext x0 x1 K
  unfold refGroupB groupB
  rw [refRound_eq 17#32 15#32 (by decide) (by decide), refRound_eq 29#32 3#32 (by decide) (by decide),
    refRound_eq 16#32 16#32 (by decide) (by decide), refRound_eq 24#32 8#32 (by decide) (by decide)]

/-- The first group's first word, where the high word is zero. -/
theorem zero_addi (y : IVec S64x1000000 32) : addi (addi (kst 0#32) (kst 0#32)) y = y := by
  funext j
  show (0#32 + 0#32) + y j = y j
  rw [BitVec.add_zero, BitVec.zero_add]

/-- The first group, its first round written short. -/
theorem groupA_zero (y : IVec S64x1000000 32) (K : IVec S64x1000000 32 → IVec S64x1000000 32 → IVec S64x1000000 32) :
    groupA (addi (kst 0#32) (kst 0#32)) y K = tailA y (rotx 13#32 19#32 y y) K := by
  show tailA (addi (addi (kst 0#32) (kst 0#32)) y) (rotx 13#32 19#32 y (addi (addi (kst 0#32) (kst 0#32)) y)) K = _
  rw [zero_addi]

/-- The reference's bits are the cipher's. -/
theorem refBits_eq (flat : IVec S64x1000000 32) : refBits flat = cipher flat := by
  unfold refBits
  rw [refGroupA_eq, refGroupB_eq, groupA_zero]
  rfl

/-- The reference's score at an index: the logit plus the variate. -/
theorem refScore_apply (bits : IVec S64x1000000 32) (X : FVec Ideal S64x1000000 .f32) (j : S64x1000000.Idx) :
    refScore (F := Ideal) bits X j = X j + gum (bits j) := by
  have hl : 0 < -Real.log (uni (bits j)) := by
    have := Real.log_neg (uni_pos (bits j)) (uni_lt (bits j)); linarith
  have hs : Host.shrui bits (kst 9#32) j = bits j >>> (9#32) := rfl
  show -Ideal.log (-Ideal.log (max (Ideal.ofBits .f32 0x00800000#32)
    ((Ideal.ofBits .f32 (Host.shrui bits (kst 9#32) j ||| 1065353216#32) - Ideal.ofBits .f32 0x3F800000#32) * Ideal.ofBits .f32 0x3F800000#32
      + Ideal.ofBits .f32 0x00800000#32))) + X j = _
  rw [hs, Ideal.ofBits_one_f32]
  have hu := refUnit_val (bits j)
  unfold pat at hu
  rw [hu, log_pos _ (uni_pos (bits j)), ← EReal.coe_neg, log_pos _ hl, ← EReal.coe_neg, gum_val, add_comm]

end Cert.Proof

end
-- ==== Proof.KernelArgmax.lean ====
/-
  What the kernel computes over the extended reals: in every row, the first column where the score is greatest.
-/
module

public import proofs.«01_k».proof.Proof.LaunchRun
public import proofs.«01_k».proof.Proof.Win
public import proofs.«01_k».proof.Proof.Score
public import Idealize.ShloMosaic.Lib.Pipeline.Value

@[expose] public section

noncomputable section

namespace Cert.Proof.KernelIdeal

open Cert.KernelIdeal Cert.KernelIdeal.Gen

open Idealize.ShloMosaic

/-- Row `r`'s score at a column: the logit plus the variate of the column's bits. -/
def scoreAt (X : Vec Ideal S64x1000000 .f32) (r : Fin 64) (c : ℕ) : EReal :=
  logit (F := Ideal) X r c + gum (bitsOf (BitVec.ofNat 32 (r.val * 1000000 + c)))
/-- The position of a column of row `r`. -/
def posOf (r : Fin 64) (c : ℕ) : BitVec 32 := BitVec.ofNat 32 (r.val * 1000000 + c)

/-- Row `r`, lane `l` of a block. -/
def lane (r : Fin 64) (l : Fin 256) : S64x256.Idx := fun | 0 => r | 1 => l
/-- Row `r` of a column of bests. -/
def cell (r : Fin 64) : S64x1.Idx := fun | 0 => r | 1 => (0 : Fin 1)
/-- Row `r` of a vector of rows. -/
def rowIx (r : Fin 64) : S64.Idx := fun | 0 => r

/-- A position is the number it is made of. -/
theorem posOf_toInt (r : Fin 64) (c : ℕ) (hc : c < 1000000) : (posOf r c).toInt = r.val * 1000000 + c := by
  have hr : r.val < 64 := r.isLt
  have hn : (posOf r c).toNat = r.val * 1000000 + c := by
    unfold posOf; rw [BitVec.toNat_ofNat]; omega
  rw [BitVec.toInt_eq_toNat_of_lt (by rw [hn]; omega), hn]
  push_cast
  rfl

/-- Choosing by a strict comparison. -/
theorem sel_gt {α : Type} (a b : Ideal .f32) (x y : α) :
    Scalar.select (FloatOps.cmpf (F := Ideal) (φ := .f32) .ogt a b) x y = if (b : EReal) < a then x else y := by
  show (if BitVec.ofBool (decide ((b : EReal) < a)) = 1 then x else y) = _
  by_cases h : (b : EReal) < a
  · rw [decide_eq_true h, if_pos h]; rfl
  · rw [decide_eq_false h, if_neg h]; rfl

/-- Choosing by equality. -/
theorem sel_eq {α : Type} (a b : Ideal .f32) (x y : α) :
    Scalar.select (FloatOps.cmpf (F := Ideal) (φ := .f32) .oeq a b) x y = if (a : EReal) = b then x else y := by
  show (if BitVec.ofBool (decide ((a : EReal) = b)) = 1 then x else y) = _
  by_cases h : (a : EReal) = b
  · rw [decide_eq_true h, if_pos h]; rfl
  · rw [decide_eq_false h, if_neg h]; rfl

/-- The pattern the running bests start from is the least value. -/
theorem neg_inf : Ideal.ofBits .f32 0xFF800000#32 = ⊥ := by
  simp [Ideal.ofBits, Ideal.ieee]

section Fold

variable (X : Vec Ideal S64x1000000 .f32) (r : Fin 64)

/-- The columns of lane `l` in the first `k` blocks from column `b`. -/
def LaneSet (b : ℕ) (l : Fin 256) (k : ℕ) (d : ℕ) : Prop := ∃ t, t < k ∧ d = b + 256 * t + l.val ∧ d < 1000000

/-- One lane's update takes the next column into its best. -/
theorem upd_win (hX : ∀ c, c < 1000000 → scoreAt X r c ≠ ⊥) {S : ℕ → Prop} (s sv : FVec Ideal S64x256 .f32) (flat si : IVec S64x256 32)
    (y : S64x256.Idx) (c : ℕ) (hs : s y = if c < 1000000 then scoreAt X r c else (⊥ : EReal)) (hflat : flat y = posOf r c)
    (hlt : ∀ d, S d → d < c) (hp : Win (scoreAt X r) (posOf r) S (sv y) (si y)) :
    Win (scoreAt X r) (posOf r) (fun d => S d ∨ (d = c ∧ d < 1000000)) (updV s sv y) (updI s sv flat si y) := by
  have e1 : updV s sv y = if (sv y : EReal) < s y then s y else sv y := sel_gt _ _ _ _
  have e2 : updI s sv flat si y = if (sv y : EReal) < s y then flat y else si y := sel_gt _ _ _ _
  rw [e1, e2, hflat]
  by_cases hc : c < 1000000
  · rw [if_pos hc] at hs
    rw [hs]
    refine (Win.step (T := fun c' => c' = c) (fun d d' hd hd' => hd' ▸ hlt d hd) (fun d hd => hd ▸ hX c hc) hp (Win.single c)).congr fun d => ?_
    constructor
    · rintro (h | h)
      · exact .inl h
      · exact .inr ⟨h, h ▸ hc⟩
    · rintro (h | h)
      · exact .inl h
      · exact .inr h.1
  · rw [if_neg hc] at hs
    rw [hs, if_neg not_lt_bot, if_neg not_lt_bot]
    refine hp.congr fun d => ⟨.inl, ?_⟩
    rintro (h | h)
    · exact h
    · exact absurd (h.1 ▸ h.2) hc

/-- One more block of a lane's columns. -/
theorem laneSet_succ (b : ℕ) (l : Fin 256) (k d : ℕ) :
    LaneSet b l k d ∨ (d = b + 256 * k + l.val ∧ d < 1000000) ↔ LaneSet b l (k + 1) d := by
  constructor
  · rintro (⟨t, h1, h2⟩ | h)
    · exact ⟨t, by omega, h2⟩
    · exact ⟨k, by omega, h⟩
  · rintro ⟨t, h1, h2⟩
    rcases Nat.lt_succ_iff_lt_or_eq.mp h1 with h | h
    · exact .inl ⟨t, h, h2⟩
    · exact .inr (h ▸ h2)

/-- A lane of a loaded block of the main kernel is the logit of its column. -/
theorem ld_main (j k : ℕ) (hk : k < 64) (l : Fin 256) :
    View.ld (Val := Elt Ideal) (e' := .f32) (mainBlock X j) (Rect.unit (s := S64x16384) ![0, 256 * k] S64x256.size (inb_logits1 k hk)) (lane r l)
      = logit (F := Ideal) X r (16384 * j + 256 * k + l.val) := by
  have h0 : 0 + 1 * r.val < 64 := by have := r.isLt; omega
  show logit (F := Ideal) X ⟨0 + 1 * r.val, h0⟩ (16384 * j + (256 * k + 1 * l.val)) = _
  rw [show (⟨0 + 1 * r.val, h0⟩ : Fin 64) = r from Fin.ext (by show 0 + 1 * r.val = r.val; omega), Nat.one_mul, Nat.add_assoc]

/-- A lane of a loaded block of the tail kernel is the logit of its column. -/
theorem ld_tail (j k : ℕ) (hk : k < 32) (l : Fin 256) :
    View.ld (Val := Elt Ideal) (e' := .f32) (tailBlock X j) (Rect.unit (s := S64x8192) ![0, 256 * k] S64x256.size (inb_logits2 k hk)) (lane r l)
      = logit (F := Ideal) X r (720896 + 8192 * j + 256 * k + l.val) := by
  have h0 : 0 + 1 * r.val < 64 := by have := r.isLt; omega
  show logit (F := Ideal) X ⟨0 + 1 * r.val, h0⟩ (720896 + 8192 * j + (256 * k + 1 * l.val)) = _
  rw [show (⟨0 + 1 * r.val, h0⟩ : Fin 64) = r from Fin.ext (by show 0 + 1 * r.val = r.val; omega), Nat.one_mul,
    Nat.add_assoc (720896 + 8192 * j)]

/-- A lane of a loaded block of bits is the bits of its position. -/
theorem ld_bits (j : ℕ) (hj : j < 35) (k : ℕ) (hk : k < 32) (l : Fin 256) :
    shapeCast S64x256 (View.ld (Val := Elt Ideal) (e' := .i32) (tailBits (F := Ideal) bitsArr ⟨j, hj⟩)
        (Rect.unit (s := S1x64x8192) ![0, 0, 256 * k] S1x64x256.size (inb_bits k hk))) shapeCasts_S1x64x256_S64x256 (lane r l)
      = bitsOf (BitVec.ofNat 32 (r.val * 1000000 + (720896 + 8192 * j + 256 * k + l.val))) := by
  have hl : l.val < 256 := l.isLt
  have hr : r.val < 64 := r.isLt
  rw [shapeCast_apply _ shapeCasts_S1x64x256_S64x256 (lane r l) (fun | 0 => (0 : Fin 1) | 1 => r | 2 => l) (by
    rw [Shape.rowMajor_val_three, Shape.rowMajor_val_two]
    show (0 * 64 + r.val) * 256 + l.val = r.val * 256 + l.val
    omega)]
  show bitsOf (BitVec.ofNat 32 (256 * k + 1 * l.val) + (BitVec.ofNat 32 ((0 + 1 * r.val) * 1000000 + 720896) + 8192#32 * BitVec.ofNat 32 j)) = _
  refine congrArg bitsOf ?_
  simp only [Nat.zero_add, Nat.one_mul, BitVec.ofNat_add, BitVec.ofNat_mul]
  ac_rfl

/-- The main kernel's score of a lane. -/
theorem mainScore_apply (c : BitVec 32) (L : Vec Ideal S64x256 .f32) (y : S64x256.Idx) :
    mainScore (F := Ideal) c L y = L y + gum (bitsOf (addi rowBase (colsAt c) y)) := by
  show L y + gumbel (F := Ideal) (cipher (addi rowBase (colsAt c))) y = _
  rw [gumbel_apply, cipher_apply]

/-- The tail kernel's score of a lane. -/
theorem tailScore_apply (c : BitVec 32) (B : Vec Ideal S1x64x256 .i32) (L : Vec Ideal S64x256 .f32) (y : S64x256.Idx) :
    tailScore (F := Ideal) c B L y = if (colsAt c y).toNat < 1000000 then L y + gum (shapeCast S64x256 B shapeCasts_S1x64x256_S64x256 y) else (⊥ : EReal) := by
  show (if BitVec.ofBool (BitVec.ult (colsAt c y) 1000000#32) = 1 then L y + gum (shapeCast S64x256 B shapeCasts_S1x64x256_S64x256 y)
    else Ideal.ofBits .f32 0xFF800000#32) = _
  rw [neg_inf]
  unfold BitVec.ult
  by_cases hc : (colsAt c y).toNat < 1000000
  · rw [if_pos hc, decide_eq_true (show (colsAt c y).toNat < (1000000#32).toNat from hc), if_pos (by rfl)]
  · rw [if_neg hc, decide_eq_false (show ¬ (colsAt c y).toNat < (1000000#32).toNat from hc), if_neg (by decide)]

/-- The main body's fold leaves every lane with the best of its columns. -/
theorem mainFold_win (hX : ∀ c, c < 1000000 → scoreAt X r c ≠ ⊥) (j : ℕ) (hj : j < 44) (l : Fin 256) :
    ∀ (n : ℕ) (h : n ≤ 64) (sv : FVec Ideal S64x256 .f32) (si : IVec S64x256 32),
    Win (scoreAt X r) (posOf r) (LaneSet (16384 * j) l (64 - n)) (sv (lane r l)) (si (lane r l)) →
    Win (scoreAt X r) (posOf r) (LaneSet (16384 * j) l 64)
      ((mainFold (Scalar.muli 16384#32 (BitVec.ofNat 32 j)) (mainBlock X j) n h sv si).1 (lane r l))
      ((mainFold (Scalar.muli 16384#32 (BitVec.ofNat 32 j)) (mainBlock X j) n h sv si).2 (lane r l))
  | 0, _, sv, si, hw => hw
  | n + 1, h, sv, si, hw => by
    have hl : l.val < 256 := l.isLt
    have hr : r.val < 64 := r.isLt
    have hpos : addi rowBase (colsAt (Scalar.addi (Scalar.muli 16384#32 (BitVec.ofNat 32 j)) (BitVec.ofNat 32 (256 * (63 - n))))) (lane r l)
        = posOf r (16384 * j + 256 * (63 - n) + l.val) := by
      show BitVec.ofNat 32 (0 * 64 + r.val) * 1000000#32 + (BitVec.ofNat 32 (0 * 256 + l.val) + (16384#32 * BitVec.ofNat 32 j + BitVec.ofNat 32 (256 * (63 - n)))) = _
      unfold posOf
      simp only [Nat.zero_mul, Nat.zero_add, BitVec.ofNat_add, BitVec.ofNat_mul]
      ac_rfl
    unfold mainFold
    refine mainFold_win hX j hj l n _ _ _ ?_
    have hk : 64 - n = (63 - n) + 1 := by omega
    rw [hk]
    refine (upd_win X r hX _ sv _ si (lane r l) (16384 * j + 256 * (63 - n) + l.val) ?_ hpos ?_ ?_).congr (laneSet_succ (16384 * j) l (63 - n))
    · have hc : 16384 * j + 256 * (63 - n) + l.val < 1000000 := by omega
      rw [if_pos hc]
      rw [mainScore_apply, ld_main X r j (63 - n) (by omega), hpos]
      rfl
    · rintro d ⟨t, h1, h2, -⟩; omega
    · rw [show 64 - (n + 1) = 63 - n by omega] at hw; exact hw

/-- The tail body's fold does too. -/
theorem tailFold_win (hX : ∀ c, c < 1000000 → scoreAt X r c ≠ ⊥) (j : ℕ) (hj : j < 35) (l : Fin 256) :
    ∀ (n : ℕ) (h : n ≤ 32) (sv : FVec Ideal S64x256 .f32) (si : IVec S64x256 32),
    Win (scoreAt X r) (posOf r) (LaneSet (720896 + 8192 * j) l (32 - n)) (sv (lane r l)) (si (lane r l)) →
    Win (scoreAt X r) (posOf r) (LaneSet (720896 + 8192 * j) l 32)
      ((tailFold (Scalar.addi 720896#32 (Scalar.muli 8192#32 (BitVec.ofNat 32 j))) (tailBits (F := Ideal) bitsArr ⟨j, hj⟩) (tailBlock X j) n h sv si).1 (lane r l))
      ((tailFold (Scalar.addi 720896#32 (Scalar.muli 8192#32 (BitVec.ofNat 32 j))) (tailBits (F := Ideal) bitsArr ⟨j, hj⟩) (tailBlock X j) n h sv si).2 (lane r l))
  | 0, _, sv, si, hw => hw
  | n + 1, h, sv, si, hw => by
    have hl : l.val < 256 := l.isLt
    have hr : r.val < 64 := r.isLt
    have hcol : (colsAt (Scalar.addi (Scalar.addi 720896#32 (Scalar.muli 8192#32 (BitVec.ofNat 32 j))) (BitVec.ofNat 32 (256 * (31 - n)))) (lane r l)).toNat
        = 720896 + 8192 * j + 256 * (31 - n) + l.val := by
      show (BitVec.ofNat 32 (0 * 256 + l.val) + ((720896#32 + 8192#32 * BitVec.ofNat 32 j) + BitVec.ofNat 32 (256 * (31 - n)))).toNat = _
      have e : BitVec.ofNat 32 (0 * 256 + l.val) + ((720896#32 + 8192#32 * BitVec.ofNat 32 j) + BitVec.ofNat 32 (256 * (31 - n)))
          = BitVec.ofNat 32 (720896 + 8192 * j + 256 * (31 - n) + l.val) := by
        simp only [Nat.zero_mul, Nat.zero_add, BitVec.ofNat_add, BitVec.ofNat_mul]
        ac_rfl
      rw [e, BitVec.toNat_ofNat]
      exact Nat.mod_eq_of_lt (by omega)
    have hpos : addi rowBase (colsAt (Scalar.addi (Scalar.addi 720896#32 (Scalar.muli 8192#32 (BitVec.ofNat 32 j))) (BitVec.ofNat 32 (256 * (31 - n))))) (lane r l)
        = posOf r (720896 + 8192 * j + 256 * (31 - n) + l.val) := by
      show BitVec.ofNat 32 (0 * 64 + r.val) * 1000000#32 + (BitVec.ofNat 32 (0 * 256 + l.val) + ((720896#32 + 8192#32 * BitVec.ofNat 32 j) + BitVec.ofNat 32 (256 * (31 - n)))) = _
      unfold posOf
      simp only [Nat.zero_mul, Nat.zero_add, BitVec.ofNat_add, BitVec.ofNat_mul]
      ac_rfl
    unfold tailFold
    refine tailFold_win hX j hj l n _ _ _ ?_
    have hk : 32 - n = (31 - n) + 1 := by omega
    rw [hk]
    refine (upd_win X r hX _ sv _ si (lane r l) (720896 + 8192 * j + 256 * (31 - n) + l.val) ?_ hpos ?_ ?_).congr (laneSet_succ (720896 + 8192 * j) l (31 - n))
    · rw [tailScore_apply, ld_tail X r j (31 - n) (by omega), ld_bits r j hj (31 - n) (by omega), hcol]
      rfl
    · rintro d ⟨t, h1, h2, -⟩; omega
    · rw [show 32 - (n + 1) = 31 - n by omega] at hw; exact hw

end Fold

end Cert.Proof.KernelIdeal

end
-- ==== Proof.KernelPick.lean ====
/-
  The kernel's bests joined: over the lanes of a block, over the blocks of a call, over the two calls.
-/
module

public import proofs.«01_k».proof.Proof.KernelArgmax

@[expose] public section

noncomputable section

namespace Cert.Proof.KernelIdeal

open Cert.KernelIdeal Cert.KernelIdeal.Gen

open Idealize.ShloMosaic

/-- A fold over the lanes of a row, by an operation that picks, is its start or a lane, and before every lane. -/
theorem rowFold {α : Type} (g : α → α → α) (R : α → α → Prop) (hr : ∀ a, R a a) (ht : ∀ a b c, R a b → R b c → R a c)
    (hg : ∀ a b, (g a b = a ∨ g a b = b) ∧ R (g a b) a ∧ R (g a b) b) (h : S64x256.Reduces [1] S64) (init : α) (x : S64x256.Idx → α) (r : Fin 64) :
    (reduceFold h g init x (rowIx r) = init ∨ ∃ l, reduceFold h g init x (rowIx r) = x (lane r l))
      ∧ ∀ l, R (reduceFold h g init x (rowIx r)) (x (lane r l)) := by
  rw [reduceFold_eq_foldl]
  rw [← List.foldl_map (f := x) (g := g)]
  obtain ⟨h1, -, h3⟩ := fold_pick g R hr ht hg
    (List.map x (((List.finRange S64x256.numel).map S64x256.rowMajor.symm).filter fun i => h.drop i = rowIx r)) init
  have hdrop : ∀ i : S64x256.Idx, h.drop i = rowIx r ↔ i 0 = r := by
    intro i
    have h0 : ((h.drop i) 0).val = (i 0).val := h.drop_apply_val_of_eq i 0 0 (by decide) (by decide)
    constructor
    · intro e; rw [e] at h0; exact Fin.ext h0.symm
    · intro e; funext a
      match a with
      | 0 => exact Fin.ext (h0.trans (congrArg Fin.val e))
  refine ⟨h1.imp id fun hm => ?_, fun l => h3 _ ?_⟩
  · obtain ⟨i, hi, he⟩ := List.mem_map.mp hm
    have hi' := (hdrop i).mp (of_decide_eq_true (List.mem_filter.mp hi).2)
    refine ⟨i 1, he.symm.trans (congrArg x ?_)⟩
    funext a
    match a with
    | 0 => exact hi'
    | 1 => rfl
  · refine List.mem_map.mpr ⟨lane r l, List.mem_filter.mpr ⟨?_, decide_eq_true ((hdrop _).mpr rfl)⟩, rfl⟩
    exact List.mem_map.mpr ⟨S64x256.rowMajor (lane r l), List.mem_finRange _, Equiv.symm_apply_apply _ _⟩

/-- A column of rows read at a row. -/
theorem col_apply {α : Type} (x : S64.Idx → α) (r : Fin 64) : shapeCast S64x1 x shapeCasts_S64_S64x1 (cell r) = x (rowIx r) :=
  shapeCast_apply x shapeCasts_S64_S64x1 (cell r) (rowIx r) (by
    rw [Shape.rowMajor_val_one, Shape.rowMajor_val_two]
    show r.val = r.val * 1 + 0
    omega)

/-- The greatest value of a row's lanes. -/
theorem rowMax_spec (sv : FVec Ideal S64x256 .f32) (r : Fin 64) :
    ((rowMax sv (cell r) : EReal) = ⊥ ∨ ∃ l, (rowMax sv (cell r) : EReal) = sv (lane r l)) ∧ ∀ l, (sv (lane r l) : EReal) ≤ rowMax sv (cell r) := by
  have e : rowMax sv (cell r) = reduceFold reduces_S64x256_S64 (fun a b : EReal => max a b) (Ideal.ofBits .f32 0xFF800000#32) sv (rowIx r) :=
    col_apply (reduceFold reduces_S64x256_S64 (fun a b : EReal => max a b) (Ideal.ofBits .f32 0xFF800000#32) sv) r
  have h := rowFold (α := EReal) (fun a b => max a b) (fun a b => b ≤ a) (fun a => le_rfl) (fun a b c h1 h2 => h2.trans h1)
    (fun a b => ⟨(max_choice a b), le_max_left a b, le_max_right a b⟩) reduces_S64x256_S64 (Ideal.ofBits .f32 0xFF800000#32) sv r
  rw [← e, neg_inf] at h
  exact h

/-- The least signed of the chosen positions of a row's lanes. -/
theorem rowIdx_spec (sv : FVec Ideal S64x256 .f32) (si : IVec S64x256 32) (r : Fin 64) :
    (rowIdx sv si (cell r) = 2147483647#32 ∨ ∃ l, rowIdx sv si (cell r) = if (sv (lane r l) : EReal) = rowMax sv (cell r) then si (lane r l) else 2147483647#32)
      ∧ ∀ l, (rowIdx sv si (cell r)).toInt ≤ (if (sv (lane r l) : EReal) = rowMax sv (cell r) then si (lane r l) else 2147483647#32).toInt := by
  have hb : ∀ l, broadcastTo S64x256 (rowMax sv) broadcasts_S64x1_S64x256 (lane r l) = rowMax sv (cell r) := fun l =>
    broadcastTo_apply (rowMax sv) broadcasts_S64x1_S64x256 (lane r l) (cell r) (fun a => by
      match a with
      | 0 => rfl
      | 1 => rfl)
  have hx : ∀ l, select (cmpf .oeq sv (broadcastTo S64x256 (rowMax sv) broadcasts_S64x1_S64x256)) si (broadcast S64x256 2147483647#32) (lane r l)
      = if (sv (lane r l) : EReal) = rowMax sv (cell r) then si (lane r l) else 2147483647#32 := fun l => by
    rw [← hb l]; exact sel_eq _ _ _ _
  have h := rowFold (α := BitVec 32) IKind.minsi.op (fun a b => a.toInt ≤ b.toInt) (fun a => le_rfl) (fun a b c h1 h2 => h1.trans h2)
    (fun a b => by
      show ((if a.slt b then a else b) = a ∨ (if a.slt b then a else b) = b) ∧ (if a.slt b then a else b).toInt ≤ a.toInt ∧ (if a.slt b then a else b).toInt ≤ b.toInt
      unfold BitVec.slt
      by_cases hab : a.toInt < b.toInt
      · rw [decide_eq_true hab, if_pos rfl]; exact ⟨.inl rfl, le_rfl, hab.le⟩
      · rw [decide_eq_false hab, if_neg (by decide)]; exact ⟨.inr rfl, not_lt.mp hab, le_rfl⟩)
    reduces_S64x256_S64 2147483647#32
    (select (cmpf .oeq sv (broadcastTo S64x256 (rowMax sv) broadcasts_S64x1_S64x256)) si (broadcast S64x256 2147483647#32)) r
  have e : rowIdx sv si (cell r) = reduceFold reduces_S64x256_S64 IKind.minsi.op 2147483647#32
      (select (cmpf .oeq sv (broadcastTo S64x256 (rowMax sv) broadcasts_S64x1_S64x256)) si (broadcast S64x256 2147483647#32)) (rowIx r) :=
    col_apply (reduceFold reduces_S64x256_S64 IKind.minsi.op 2147483647#32
      (select (cmpf .oeq sv (broadcastTo S64x256 (rowMax sv) broadcasts_S64x1_S64x256)) si (broadcast S64x256 2147483647#32))) r
  rw [← e] at h
  simp only [hx] at h
  exact h

/-- The running best's value after a block. -/
theorem mergeV_apply (m b : FVec Ideal S64x1 .f32) (j : S64x1.Idx) : mergeV m b j = if (b j : EReal) < m j then m j else b j := by
  unfold mergeV
  rw [shapeCast_self]; exact sel_gt _ _ _ _

/-- The running best's position after a block. -/
theorem mergeI_apply (m b : FVec Ideal S64x1 .f32) (i p : IVec S64x1 32) (j : S64x1.Idx) :
    mergeI m b i p j = if (b j : EReal) < m j then i j else p j := by
  unfold mergeI
  rw [shapeCast_self]; exact sel_gt _ _ _ _

/-- The running best's first value. -/
theorem accV0_apply (j : S64x1.Idx) : accV0 (F := Ideal) j = (⊥ : EReal) := by
  unfold accV0
  rw [shapeCast_self]; exact neg_inf

section Best

variable (X : Vec Ideal S64x1000000 .f32) (r : Fin 64)

/-- A block's lanes joined to the running best. -/
theorem mergeBest_win (hX : ∀ c, c < 1000000 → scoreAt X r c ≠ ⊥) (b k : ℕ) (p : FVec Ideal S64x256 .f32 × IVec S64x256 32) (a : Best Ideal)
    (hp : ∀ l, Win (scoreAt X r) (posOf r) (LaneSet b l k) (p.1 (lane r l)) (p.2 (lane r l)))
    {S : ℕ → Prop} (hS : ∀ d, S d → d < b) (ha : Win (scoreAt X r) (posOf r) S (a.1 (cell r)) (a.2 (cell r))) :
    Win (scoreAt X r) (posOf r) (fun d => S d ∨ ∃ l, LaneSet b l k d) ((mergeBest p a).1 (cell r)) ((mergeBest p a).2 (cell r)) := by
  have hr : r.val < 64 := r.isLt
  have hlt : ∀ l d, LaneSet b l k d → d < 1000000 := fun l d ⟨_, _, _, h⟩ => h
  have hw : Win (scoreAt X r) (posOf r) (fun d => ∃ l, LaneSet b l k d) (rowMax p.1 (cell r)) (rowIdx p.1 p.2 (cell r)) :=
    Win.lanes 2147483647#32 hp (fun l c hc => hX c (hlt l c hc))
      (fun l c hc => by
        have := hlt l c hc
        rw [posOf_toInt r c this, show (2147483647#32).toInt = 2147483647 from rfl]; omega)
      (fun l l' c c' hc hc' h => by
        rw [posOf_toInt r c (hlt l c hc), posOf_toInt r c' (hlt l' c' hc')] at h; omega)
      (rowMax_spec p.1 r).1 (rowMax_spec p.1 r).2 (rowIdx_spec p.1 p.2 r).1 (rowIdx_spec p.1 p.2 r).2
  have e1 : (mergeBest p a).1 (cell r) = if (a.1 (cell r) : EReal) < rowMax p.1 (cell r) then rowMax p.1 (cell r) else a.1 (cell r) := by
    unfold mergeBest
    dsimp only
    rw [mergeV_apply]
  have e2 : (mergeBest p a).2 (cell r) = if (a.1 (cell r) : EReal) < rowMax p.1 (cell r) then rowIdx p.1 p.2 (cell r) else a.2 (cell r) := by
    unfold mergeBest
    dsimp only
    rw [mergeI_apply]
  rw [e1, e2]
  exact Win.step (fun c c' hc ⟨l, t, _, h, _⟩ => by have := hS c hc; omega) (fun c ⟨l, hc⟩ => hX c (hlt l c hc)) ha hw

/-- The lanes of a block start with no column. -/
theorem start_win (b : ℕ) (l : Fin 256) : Win (scoreAt X r) (posOf r) (LaneSet b l 0) (sv0 (F := Ideal) (lane r l)) (si0 (lane r l)) := by
  rw [show sv0 (F := Ideal) (lane r l) = (⊥ : EReal) from neg_inf]
  exact Win.empty _ (fun c ⟨_, h, _⟩ => absurd h (Nat.not_lt_zero _)) _

/-- The running best starts with no column. -/
theorem best0_win : Win (scoreAt X r) (posOf r) (fun _ => False) ((best0 (F := Ideal)).1 (cell r)) ((best0 (F := Ideal)).2 (cell r)) := by
  have : (best0 (F := Ideal)).1 (cell r) = (⊥ : EReal) := accV0_apply (cell r)
  rw [this]
  exact Win.empty _ (fun _ h => h) _

/-- The main call's running best after `n` points. -/
theorem mainAcc_win (hX : ∀ c, c < 1000000 → scoreAt X r c ≠ ⊥) : ∀ n, n ≤ 44 →
    Win (scoreAt X r) (posOf r) (fun d => d < 16384 * n) ((mainAcc X n).1 (cell r)) ((mainAcc X n).2 (cell r))
  | 0, _ => (best0_win X r).congr fun d => ⟨False.elim, fun h => absurd h (by omega)⟩
  | n + 1, h => by
    refine (mergeBest_win X r hX (16384 * n) 64 _ (mainAcc X n)
      (fun l => mainFold_win X r hX n (by omega) l 64 le_rfl sv0 si0 (start_win X r _ l)) (fun d hd => hd) (mainAcc_win hX n (by omega))).congr fun d => ?_
    constructor
    · rintro (h1 | ⟨l, t, h1, h2, h3⟩)
      · omega
      · have := l.isLt; omega
    · intro h1
      by_cases h2 : d < 16384 * n
      · exact .inl h2
      · exact .inr ⟨⟨(d - 16384 * n) % 256, by omega⟩, (d - 16384 * n) / 256, by omega, by show d = _ + (d - 16384 * n) % 256; omega, by omega⟩

/-- The tail call's running best after `n` points. -/
theorem tailAcc_win (hX : ∀ c, c < 1000000 → scoreAt X r c ≠ ⊥) : ∀ n, n ≤ 35 →
    Win (scoreAt X r) (posOf r) (fun d => 720896 ≤ d ∧ d < 720896 + 8192 * n ∧ d < 1000000)
      ((tailAcc (F := Ideal) bitsArr X n).1 (cell r)) ((tailAcc (F := Ideal) bitsArr X n).2 (cell r))
  | 0, _ => (best0_win X r).congr fun d => ⟨False.elim, fun h => absurd h (by omega)⟩
  | n + 1, h => by
    have hn : n < 35 := by omega
    rw [tailAcc, dif_pos hn]
    refine (mergeBest_win X r hX (720896 + 8192 * n) 32 _ (tailAcc (F := Ideal) bitsArr X n)
      (fun l => tailFold_win X r hX n hn l 32 le_rfl sv0 si0 (start_win X r _ l)) (fun d hd => hd.2.1) (tailAcc_win hX n (by omega))).congr fun d => ?_
    constructor
    · rintro (h1 | ⟨l, t, h1, h2, h3⟩)
      · omega
      · have := l.isLt; omega
    · intro h1
      by_cases h2 : d < 720896 + 8192 * n
      · exact .inl ⟨h1.1, h2, h1.2.2⟩
      · exact .inr ⟨⟨(d - (720896 + 8192 * n)) % 256, by omega⟩, (d - (720896 + 8192 * n)) / 256, by omega,
          by show d = _ + (d - (720896 + 8192 * n)) % 256; omega, h1.2.2⟩

/-- The column of a position of row `r`. -/
theorem colOf_apply (p : IVec S64x1 32) (c : ℕ) (hp : p (cell r) = posOf r c) : colOf p (cell r) = BitVec.ofNat 32 c := by
  show p (cell r) - BitVec.ofNat 32 (0 * 64 + r.val) * 1000000#32 = _
  rw [hp]
  unfold posOf
  rw [Nat.zero_mul, Nat.zero_add, BitVec.ofNat_add, BitVec.ofNat_mul, BitVec.add_comm]
  exact BitVec.add_sub_cancel _ _

/-- The kernel's result in a row is the first column where the score is greatest. -/
theorem kernelOut_spec (hX : ∀ c, c < 1000000 → scoreAt X r c ≠ ⊥) :
    ∃ c, c < 1000000 ∧ kernelOut (F := Ideal) X (rowIx r) = BitVec.ofNat 32 c
      ∧ (∀ d, d < 1000000 → scoreAt X r d ≤ scoreAt X r c) ∧ ∀ d, d < 1000000 → scoreAt X r d = scoreAt X r c → c ≤ d := by
  have h1 := mainAcc_win X r hX 44 le_rfl
  have h2 := tailAcc_win X r hX 35 le_rfl
  have h := (Win.step (fun c c' hc hc' => by omega) (fun c hc => hX c hc.2.2) h1 h2).congr (T := fun d => d < 1000000)
    fun d => ⟨fun h => by omega, fun h => by omega⟩
  obtain ⟨hle, hor⟩ := h
  have e : kernelOut (F := Ideal) X (rowIx r)
      = if ((best1 X).1 (cell r) : EReal) < (best2 X).1 (cell r) then colOf (best2 X).2 (cell r) else colOf (best1 X).2 (cell r) := by
    unfold kernelOut
    rw [shapeCast_apply _ shapeCasts_S64x1_S64 (rowIx r) (cell r) (by
      rw [Shape.rowMajor_val_one, Shape.rowMajor_val_two]
      show r.val * 1 + 0 = r.val
      omega)]
    exact sel_gt _ _ _ _
  rcases hor with ⟨-, hno⟩ | ⟨c, hc, hf, hi, hfirst⟩
  · exact absurd (show 0 < 1000000 by decide) (hno 0)
  refine ⟨c, hc, ?_, fun d hd => hf ▸ hle d hd, fun d hd he => hfirst d hd (he.trans hf)⟩
  rw [e]
  by_cases hlt : ((best1 X).1 (cell r) : EReal) < (best2 X).1 (cell r)
  · rw [if_pos hlt]
    refine colOf_apply r _ c ?_
    exact (if_pos hlt).symm.trans hi
  · rw [if_neg hlt]
    refine colOf_apply r _ c ?_
    exact (if_neg hlt).symm.trans hi

end Best

end Cert.Proof.KernelIdeal

end
-- ==== Proof.RefArgmax.lean ====
/-
  What the reference's reduction computes over the extended reals: in every row, the first column where the score is
  greatest.
-/
module

public import proofs.«01_k».proof.Proof.RefText
public import proofs.«01_k».proof.Proof.Win
public import Idealize.ShloMosaic.PureOps.Ideal.Laws

@[expose] public section

noncomputable section

namespace Cert.Proof

open Idealize.ShloMosaic
open Cert.ReferenceIdeal

/-- Row `r`, column `c`. -/
def entry (r : Fin 64) (c : Fin 1000000) : S64x1000000.Idx := fun | 0 => r | 1 => c
/-- Row `r` of the result. -/
def refRow (r : Fin 64) : S64.Idx := fun | 0 => r

/-- One pair before another: greater, or equal and at no later a column. -/
def Before (p q : EReal × BitVec 32) : Prop := q.1 < p.1 ∨ (p.1 = q.1 ∧ p.2.toInt ≤ q.2.toInt)

/-- Every pair is before itself. -/
theorem before_refl (p : EReal × BitVec 32) : Before p p := .inr ⟨rfl, le_rfl⟩

/-- Before is transitive. -/
theorem before_trans (p q s : EReal × BitVec 32) : Before p q → Before q s → Before p s := by
  rintro (h | ⟨h, i⟩) (h' | ⟨h', i'⟩)
  · exact .inl (h'.trans h)
  · exact .inl (h' ▸ h)
  · exact .inl (h ▸ h')
  · exact .inr ⟨h.trans h', i.trans i'⟩

/-- The reference's body as two choices. -/
theorem reducer_eq (a b : EReal × BitVec 32) :
    reducer_argmax_f32_i32 (F := Ideal) a b = if b.1 < a.1 ∨ (a.1 = b.1 ∧ a.2.toInt < b.2.toInt) then a else b := by
  obtain ⟨a1, a2⟩ := a
  obtain ⟨b1, b2⟩ := b
  show ((if (BitVec.ofBool (decide (b1 < a1)) ||| BitVec.ofBool (decide (a1 ≠ a1))) = 1 then a1 else b1 : EReal),
    (if ((BitVec.ofBool (decide (b1 < a1)) ||| BitVec.ofBool (decide (a1 ≠ a1))) ||| (BitVec.ofBool (decide (a1 = b1)) &&& BitVec.ofBool (decide (a2.toInt < b2.toInt)))) = 1
      then a2 else b2 : BitVec 32)) = if b1 < a1 ∨ (a1 = b1 ∧ a2.toInt < b2.toInt) then (a1, a2) else (b1, b2)
  rw [show decide (a1 ≠ a1) = false from decide_eq_false (fun h => h rfl)]
  by_cases h1 : b1 < a1
  · refine Eq.trans ?_ (if_pos (.inl h1)).symm
    have h2 : ¬ a1 = b1 := fun h => lt_irrefl _ (h ▸ h1)
    rw [decide_eq_true h1, decide_eq_false h2]
    by_cases h3 : a2.toInt < b2.toInt
    · rw [decide_eq_true h3]; rfl
    · rw [decide_eq_false h3]; rfl
  · by_cases h2 : a1 = b1
    · by_cases h3 : a2.toInt < b2.toInt
      · refine Eq.trans ?_ (if_pos (.inr ⟨h2, h3⟩)).symm
        rw [decide_eq_false h1, decide_eq_true h2, decide_eq_true h3]
        exact Prod.ext h2.symm rfl
      · refine Eq.trans ?_ (if_neg (fun h => h.elim h1 fun h => h3 h.2)).symm
        rw [decide_eq_false h1, decide_eq_true h2, decide_eq_false h3]; rfl
    · refine Eq.trans ?_ (if_neg (fun h => h.elim h1 fun h => h2 h.1)).symm
      rw [decide_eq_false h1, decide_eq_false h2]
      by_cases h3 : a2.toInt < b2.toInt
      · rw [decide_eq_true h3]; rfl
      · rw [decide_eq_false h3]; rfl

/-- The reference's body picks the one of its operands before the other. -/
theorem reducer_pick (a b : EReal × BitVec 32) :
    (reducer_argmax_f32_i32 (F := Ideal) a b = a ∨ reducer_argmax_f32_i32 (F := Ideal) a b = b)
      ∧ Before (reducer_argmax_f32_i32 (F := Ideal) a b) a ∧ Before (reducer_argmax_f32_i32 (F := Ideal) a b) b := by
  rw [reducer_eq]
  by_cases h : b.1 < a.1 ∨ (a.1 = b.1 ∧ a.2.toInt < b.2.toInt)
  · rw [if_pos h]
    exact ⟨.inl rfl, before_refl a, h.imp id fun h => ⟨h.1, h.2.le⟩⟩
  · rw [if_neg h]
    refine ⟨.inr rfl, ?_, before_refl b⟩
    rw [not_or, not_and] at h
    rcases lt_or_eq_of_le (not_lt.mp h.1) with h1 | h1
    · exact .inl h1
    · exact .inr ⟨h1.symm, not_lt.mp (h.2 h1)⟩

/-- A column below 2^31, read signed. -/
theorem ofNat_toInt (c : ℕ) (hc : c < 1000000) : (BitVec.ofNat 32 c).toInt = c := by
  have hn : (BitVec.ofNat 32 c).toNat = c := by rw [BitVec.toNat_ofNat]; omega
  rw [BitVec.toInt_eq_toNat_of_lt (by rw [hn]; omega), hn]

/-- The pairs a row's reduction runs over are the row's scores with their columns. -/
theorem mem_fiber (s : FVec Ideal S64x1000000 .f32) (h : S64x1000000.ReducesTo [1] S64) (r : Fin 64) (p : EReal × BitVec 32) :
    p ∈ Host.argReduceFiber s (iotaInDim S64x1000000 32 1) h (refRow r)
      ↔ ∃ c : Fin 1000000, p = (s (entry r c), BitVec.ofNat 32 c.val) := by
  have hdrop : ∀ i : S64x1000000.Idx, h.drop i = refRow r ↔ i 0 = r := by
    intro i
    have h0 : ((h.drop i) 0).val = (i 0).val := h.drop_apply_val_of_eq i 0 0 (by decide) (by decide)
    constructor
    · intro e; rw [e] at h0; exact Fin.ext h0.symm
    · intro e; funext a
      match a with
      | 0 => exact Fin.ext (h0.trans (congrArg Fin.val e))
  unfold Host.argReduceFiber
  constructor
  · intro hp
    obtain ⟨n, hn, he⟩ := List.mem_map.mp hp
    have hi := (hdrop _).mp (of_decide_eq_true (List.mem_filter.mp hn).2)
    refine ⟨S64x1000000.rowMajor.symm n 1, he.symm.trans (Prod.ext (congrArg s ?_) rfl)⟩
    funext a
    match a with
    | 0 => exact hi
    | 1 => rfl
  · rintro ⟨c, rfl⟩
    refine List.mem_map.mpr ⟨S64x1000000.rowMajor (entry r c), List.mem_filter.mpr ⟨List.mem_finRange _, ?_⟩, ?_⟩
    · rw [Equiv.symm_apply_apply]; exact decide_eq_true ((hdrop _).mpr rfl)
    · rw [Equiv.symm_apply_apply]; rfl

/-- Where the reduction starts: below every score, at column zero. -/
def before : EReal × BitVec 32 :=
  (constant (F := Ideal) S_ .f32 0xFF800000#32 (Shape.Idx.first Facts₀.h_S_), constantI S_ 32 0#32 (Shape.Idx.first Facts₀.h_S_))

/-- The reduction starts at -∞. -/
theorem before_fst : before.1 = ⊥ := by
  show Ideal.ofBits .f32 0xFF800000#32 = ⊥
  simp [Ideal.ofBits, Ideal.ieee]

/-- The pair the reference's body leaves over a list holding every column's score once each is the first greatest. -/
theorem fold_first (l : List (EReal × BitVec 32)) (a : EReal × BitVec 32) (ha : a.1 = ⊥) (f : ℕ → EReal) (n : ℕ) (hn : n ≤ 1000000)
    (h0 : 0 < n) (hl : ∀ p, p ∈ l ↔ ∃ c, c < n ∧ p = (f c, BitVec.ofNat 32 c)) (hX : ∀ c, c < n → f c ≠ ⊥) :
    ∃ c, c < n ∧ (l.foldl (reducer_argmax_f32_i32 (F := Ideal)) a).2 = BitVec.ofNat 32 c
      ∧ (∀ d, d < n → f d ≤ f c) ∧ ∀ d, d < n → f d = f c → c ≤ d := by
  obtain ⟨h1, -, h3⟩ := fold_pick (reducer_argmax_f32_i32 (F := Ideal)) Before before_refl before_trans reducer_pick l a
  generalize l.foldl (reducer_argmax_f32_i32 (F := Ideal)) a = p at h1 h3 ⊢
  have hall : ∀ d, d < n → Before p (f d, BitVec.ofNat 32 d) := fun d hd => h3 _ ((hl _).mpr ⟨d, hd, rfl⟩)
  rcases h1 with h1 | h1
  · exfalso
    have h := hall 0 h0
    rw [h1] at h
    rcases h with h | h
    · rw [ha] at h; exact not_lt_bot h
    · exact hX 0 h0 (h.1.symm.trans ha)
  · obtain ⟨c, hc, rfl⟩ := (hl p).mp h1
    refine ⟨c, hc, rfl, fun d hd => ?_, fun d hd he => ?_⟩
    · rcases hall d hd with h | h
      · exact le_of_lt h
      · exact ge_of_eq h.1
    · rcases hall d hd with h | h
      · exact absurd he (ne_of_lt h)
      · have := h.2; dsimp only at this
        rw [ofNat_toInt c (by omega), ofNat_toInt d (by omega)] at this
        exact_mod_cast this

/-- The pair as the folding of the reference's body, over any list and from any start. -/
theorem pair_fold (f : EReal × BitVec 32 → EReal × BitVec 32 → EReal × BitVec 32) (x : FVec Ideal S64x1000000 .f32)
    (y : IVec S64x1000000 32) (ix : FVec Ideal S_ .f32) (iy : IVec S_ 32) (h : S64x1000000.ReducesTo [1] S64) (hu : 0 < S_.numel)
    (j : S64.Idx) :
    Host.argReduce (F := Ideal) f x y ix iy h hu j
      = (Host.argReduceFiber x y h j).foldl f (ix (Shape.Idx.first hu), iy (Shape.Idx.first hu)) := by
  rw [Ideal.argReduce_eq_reduce2, Host.reduce2_eq_foldl_fiber]

/-- Equal pairs have equal second halves, row by row. -/
theorem snd_rows {f g : S64.Idx → EReal × BitVec 32} (h : ∀ j, f j = g j) : (fun j => (f j).2) = fun j => (g j).2 :=
  funext fun j => congrArg Prod.snd (h j)

/-- What the reference's body leaves over a row. -/
def refPair (s : FVec Ideal S64x1000000 .f32) (j : S64.Idx) : EReal × BitVec 32 :=
  (Host.argReduceFiber s (iotaInDim S64x1000000 32 1) Facts₀.reducesTo_S64x1000000_S64_d1 j).foldl
      (reducer_argmax_f32_i32 (F := Ideal)) before

/-- The reference's result is the column its body leaves. -/
theorem refOut_pair (s : FVec Ideal S64x1000000 .f32) : refOut (F := Ideal) s = fun j => (refPair s j).2 :=
  snd_rows (g := refPair s) fun j => pair_fold (reducer_argmax_f32_i32 (F := Ideal)) s (iotaInDim S64x1000000 32 1)
    (constant (F := Ideal) S_ .f32 0xFF800000#32) (constantI S_ 32 0#32) Facts₀.reducesTo_S64x1000000_S64_d1 Facts₀.h_S_ j

/-- The reference's result in a row is the first column where the score is greatest. -/
theorem refOut_spec (s : FVec Ideal S64x1000000 .f32) (r : Fin 64) (f : ℕ → EReal) (hf : ∀ c : Fin 1000000, s (entry r c) = f c.val)
    (hX : ∀ c, c < 1000000 → f c ≠ ⊥) :
    ∃ c, c < 1000000 ∧ refOut (F := Ideal) s (refRow r) = BitVec.ofNat 32 c
      ∧ (∀ d, d < 1000000 → f d ≤ f c) ∧ ∀ d, d < 1000000 → f d = f c → c ≤ d := by
  rw [refOut_pair]
  unfold refPair
  refine fold_first _ before before_fst f 1000000 le_rfl (Nat.zero_lt_succ _) (fun p => (mem_fiber s _ r p).trans ?_) hX
  constructor
  · rintro ⟨c, rfl⟩
    exact ⟨c.val, c.isLt, by rw [hf c]⟩
  · rintro ⟨c, hc, rfl⟩
    exact ⟨⟨c, hc⟩, by rw [hf ⟨c, hc⟩]⟩

end Cert.Proof

end
-- ==== Proof.Equal.lean ====
/-
  The kernel's results are the reference's, over the extended reals, wherever no logit is -∞.
-/
module

public import proofs.«01_k».proof.Proof.KernelPick
public import proofs.«01_k».proof.Proof.RefArgmax
public import proofs.«01_k».proof.Proof.Score

@[expose] public section

noncomputable section

namespace Cert.Proof

open Idealize.ShloMosaic Cert.Proof.KernelIdeal

/-- A counter is its position in the table. -/
theorem flat_entry (r : Fin 64) (c : Fin 1000000) : refFlat (entry r c) = BitVec.ofNat 32 (r.val * 1000000 + c.val) := by
  rw [BitVec.ofNat_add, BitVec.ofNat_mul]
  rfl

/-- The two ways of writing an entry's index. -/
theorem entry_eq (r : Fin 64) (c : Fin 1000000) : at2 r c = entry r c := by
  funext a
  match a with
  | 0 => rfl
  | 1 => rfl

/-- The reference's score of an entry is the kernel's. -/
theorem score_entry (X : FVec Ideal Cert.ReferenceIdeal.S64x1000000 .f32) (r : Fin 64) (c : Fin 1000000) :
    refScore (F := Ideal) (refBits refFlat) X (entry r c) = scoreAt X r c.val := by
  rw [refScore_apply, refBits_eq, cipher_apply, flat_entry]
  unfold scoreAt logit
  rw [dif_pos c.isLt, entry_eq]

/-- A score is not -∞ where the logit is not. -/
theorem score_ne_bot (X : FVec Ideal Cert.ReferenceIdeal.S64x1000000 .f32) (hX : ∀ i, (X i : EReal) ≠ ⊥) (r : Fin 64) (c : ℕ) (hc : c < 1000000) :
    scoreAt X r c ≠ ⊥ := by
  unfold scoreAt logit
  rw [dif_pos hc, gum_val]
  intro h
  rcases EReal.add_eq_bot_iff.mp h with h | h
  · exact hX _ h
  · exact EReal.coe_ne_bot _ h

/-- The kernel's results are the reference's. -/
theorem results_eq (X : FVec Ideal Cert.ReferenceIdeal.S64x1000000 .f32) (hX : ∀ i, (X i : EReal) ≠ ⊥) :
    refOut (F := Ideal) (refScore (F := Ideal) (refBits refFlat) X) = kernelOut (F := Ideal) X := by
  funext j
  have hj : j = refRow (j 0) := by
    funext a
    match a with
    | 0 => rfl
  have hj' : j = rowIx (j 0) := by
    funext a
    match a with
    | 0 => rfl
  have hb := score_ne_bot X hX (j 0)
  obtain ⟨c, hc, e, hm, hf⟩ := kernelOut_spec X (j 0) hb
  obtain ⟨c', hc', e', hm', hf'⟩ := refOut_spec (refScore (F := Ideal) (refBits refFlat) X) (j 0) (scoreAt X (j 0))
    (fun c => score_entry X (j 0) c) hb
  have h : c = c' := first_unique (S := fun d => d < 1000000) (f := scoreAt X (j 0)) hc hc' hm hm' hf hf'
  refine (congrArg _ hj).trans (e'.trans (Eq.trans ?_ (e.symm.trans (congrArg _ hj'.symm))))
  rw [h]

end Cert.Proof

end
-- ==== Proof.lean ====
/-
  The certificate: the frames of the kernel, of its ideal reading and of the reference, that the ideal reading is the
  kernel's own text, and that it computes the reference's results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.LaunchRun
public import proofs.«01_k».proof.Proof.LaunchRunK
public import proofs.«01_k».proof.Proof.RefFrame
public import proofs.«01_k».proof.Proof.RefRun
public import proofs.«01_k».proof.Proof.Finite
public import proofs.«01_k».proof.Proof.Equal

@[expose] public section

noncomputable section

namespace Cert.Proof

open Idealize.ShloMosaic Idealize.SL.Sem
open Cert.Proof.KernelIdeal (kernelOut logits)

/-- The kernel runs, changes no argument and leaves every semaphore at zero. -/
theorem frame_P : Cert.quiescent_Kernel := fun m ρ _ =>
  (θ_run Cert.Kernel.defs _ _).mono (fun _ h => ⟨fun c => (h.1 c).2, h.2⟩) (Kernel.run_main (F := Bits) m ρ)

/-- The same of the kernel's ideal reading. -/
theorem frame_PI : Cert.quiescent_KernelIdeal := fun m ρ _ =>
  (θ_run Cert.KernelIdeal.defs _ _).mono (fun _ h => ⟨fun c => (h.1 c).2, h.2⟩) (KernelIdeal.run_main (F := Ideal) m ρ)

/-- From equal logits, every one finite, the kernel's ideal reading and the reference end with equal results. -/
theorem algebraic : Cert.algebraic_KernelIdeal_ReferenceIdeal_pre_finite := fun m ρ m' ρ' hpre heq =>
  ⟨fun c => kernelOut (F := Ideal) (logits m c),
    (θ_run Cert.KernelIdeal.defs _ _).mono (fun _ h c => h.1 c) (KernelIdeal.run_main (F := Ideal) m ρ),
    (θ_run Cert.ReferenceIdeal.defs _ _).mono
      (fun _ h c => ⟨(h c).1.trans ((congrArg (fun X => refOut (F := Ideal) (refScore (refBits refFlat) X)) (heq c)).trans
        (results_eq _ (finite_ne_bot _ (hpre c)))), (h c).2⟩)
      (ref_run m' ρ')⟩

/-- Everything the certificate claims. -/
theorem claim : Cert.Claim := ⟨Cert.Kernel.Gen.facts, Cert.KernelIdeal.Gen.facts, Cert.ReferenceIdeal.Gen.facts, preFacts,
  frame_P, frame_PI, fun m ρ _ => frame_PI m ρ trivial, frame_RI, fun m ρ _ => frame_RI m ρ trivial, trivial, algebraic⟩

end Cert.Proof

end
